-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def preserves_Kernel_KernelIdeal : Prop :=
  True

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)) →
    ∃ (v0 : (c : Dev Cert.KernelFfnIdeal.nD) → Buf (Elt Ideal) ((c.tc : Thread Cert.KernelFfnIdeal.nD Cert.KernelFfnIdeal.τ).loc Cert.KernelFfnIdeal.main_v12)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v12) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v42) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v22_0)) (v1 : (c : Dev Cert.KernelProjIdeal.nD) → Buf (Elt Ideal) ((c.tc : Thread Cert.KernelProjIdeal.nD Cert.KernelProjIdeal.τ).loc Cert.KernelProjIdeal.main_v22_1)) (v2 : (c : Dev Cert.KernelProjIdeal.nD) → Buf (Elt Ideal) ((c.tc : Thread Cert.KernelProjIdeal.nD Cert.KernelProjIdeal.τ).loc Cert.KernelProjIdeal.main_v22_2)) (v3 : (c : Dev Cert.KernelProjIdeal.nD) → Buf (Elt Ideal) ((c.tc : Thread Cert.KernelProjIdeal.nD Cert.KernelProjIdeal.τ).loc Cert.KernelProjIdeal.main_v22_3)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v22_0) = v0 c
          ∧ r.2.mem ((c.tc : Thread Cert.KernelProjIdeal.nD Cert.KernelProjIdeal.τ).loc Cert.KernelProjIdeal.main_v22_1) = v1 c
          ∧ r.2.mem ((c.tc : Thread Cert.KernelProjIdeal.nD Cert.KernelProjIdeal.τ).loc Cert.KernelProjIdeal.main_v22_2) = v2 c
          ∧ r.2.mem ((c.tc : Thread Cert.KernelProjIdeal.nD Cert.KernelProjIdeal.τ).loc Cert.KernelProjIdeal.main_v22_3) = v3 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v40) = v0 c
          ∧ r.2.mem ((c.tc : Thread Cert.ReferenceProjIdeal.nD Cert.ReferenceProjIdeal.τ).loc Cert.ReferenceProjIdeal.main_v41) = v1 c
          ∧ r.2.mem ((c.tc : Thread Cert.ReferenceProjIdeal.nD Cert.ReferenceProjIdeal.τ).loc Cert.ReferenceProjIdeal.main_v37) = v2 c
          ∧ r.2.mem ((c.tc : Thread Cert.ReferenceProjIdeal.nD Cert.ReferenceProjIdeal.τ).loc Cert.ReferenceProjIdeal.main_v39) = v3 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def Claim : Prop :=
  ∃ (hKernel : Cert.Kernel.Facts) (hKernelIdeal : Cert.KernelIdeal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts),
    quiescent_Kernel (hKernel := hKernel)
    ∧ quiescent_KernelIdeal (hKernelIdeal := hKernelIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ preserves_Kernel_KernelIdeal
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
-- ==== Kernel.lean ====
abbrev S32768x1024 : Shape := ⟨2, ![32768, 1024]⟩
abbrev S640x32768 : Shape := ⟨2, ![640, 32768]⟩
abbrev S32768x384 : Shape := ⟨2, ![32768, 384]⟩
abbrev S2x8x256x256 : Shape := ⟨4, ![2, 8, 256, 256]⟩
abbrev S32768x512 : Shape := ⟨2, ![32768, 512]⟩
abbrev S256x512 : Shape := ⟨2, ![256, 512]⟩
abbrev S2048x512 : Shape := ⟨2, ![2048, 512]⟩
abbrev S640x2048 : Shape := ⟨2, ![640, 2048]⟩
abbrev S256x256 : Shape := ⟨2, ![256, 256]⟩
abbrev S256x128 : Shape := ⟨2, ![256, 128]⟩
abbrev S2048x128 : Shape := ⟨2, ![2048, 128]⟩
abbrev S8x256x256 : Shape := ⟨3, ![8, 256, 256]⟩
abbrev S8x256x128 : Shape := ⟨3, ![8, 256, 128]⟩
abbrev S2048x256 : Shape := ⟨2, ![2048, 256]⟩
abbrev S8x8x256 : Shape := ⟨3, ![8, 8, 256]⟩
abbrev S8x80x256 : Shape := ⟨3, ![8, 80, 256]⟩
abbrev S2x8x8x256 : Shape := ⟨4, ![2, 8, 8, 256]⟩
abbrev S1x256 : Shape := ⟨2, ![1, 256]⟩
abbrev S1x256x256 : Shape := ⟨3, ![1, 256, 256]⟩
abbrev S1x128 : Shape := ⟨2, ![1, 128]⟩
abbrev S1x256x128 : Shape := ⟨3, ![1, 256, 128]⟩
abbrev S128x256 : Shape := ⟨2, ![128, 256]⟩
abbrev S8x256 : Shape := ⟨2, ![8, 256]⟩
abbrev S8x32x256 : Shape := ⟨3, ![8, 32, 256]⟩
abbrev S32x256 : Shape := ⟨2, ![32, 256]⟩
abbrev S4x8x256 : Shape := ⟨3, ![4, 8, 256]⟩
abbrev S256 : Shape := ⟨1, ![256]⟩
abbrev S16x256 : Shape := ⟨2, ![16, 256]⟩
abbrev S64x256 : Shape := ⟨2, ![64, 256]⟩
abbrev S1x64x256 : Shape := ⟨3, ![1, 64, 256]⟩
abbrev S512x256 : Shape := ⟨2, ![512, 256]⟩
abbrev S8x64x256 : Shape := ⟨3, ![8, 64, 256]⟩
abbrev S16x32x256 : Shape := ⟨3, ![16, 32, 256]⟩
abbrev S1x1x128 : Shape := ⟨3, ![1, 1, 128]⟩
abbrev S1 : Shape := ⟨1, ![1]⟩
abbrev S1x1x1 : Shape := ⟨3, ![1, 1, 1]⟩
abbrev S8x128 : Shape := ⟨2, ![8, 128]⟩
abbrev S512x128 : Shape := ⟨2, ![512, 128]⟩
abbrev S16x32x128 : Shape := ⟨3, ![16, 32, 128]⟩
abbrev S32x128 : Shape := ⟨2, ![32, 128]⟩
abbrev S4x8x128 : Shape := ⟨3, ![4, 8, 128]⟩
abbrev S128 : Shape := ⟨1, ![128]⟩
abbrev S1x1x256x256 : Shape := ⟨4, ![1, 1, 256, 256]⟩
abbrev S1x1x256 : Shape := ⟨3, ![1, 1, 256]⟩
abbrev S1x1x1x256 : Shape := ⟨4, ![1, 1, 1, 256]⟩
abbrev S1x80x256 : Shape := ⟨3, ![1, 80, 256]⟩
abbrev S80x256 : Shape := ⟨2, ![80, 256]⟩

abbrev nBuf : Space → Nat
  | .hbm => 5
  | .vmem => 26
  | .smem => 0
  | _ => 0

abbrev bufTy : (tb : Table) → Fin (tcTables nBuf tb) → BufTy
  | .hbm, ⟨0, _⟩ => ⟨S32768x1024, .bf16⟩
  | .hbm, ⟨1, _⟩ => ⟨S640x32768, .bf16⟩
  | .hbm, ⟨2, _⟩ => ⟨S32768x384, .f32⟩
  | .hbm, ⟨3, _⟩ => ⟨S2x8x256x256, .f32⟩
  | .hbm, ⟨4, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S640x2048, .bf16⟩
  | .local _ .vmem, ⟨5, _⟩ => ⟨S640x2048, .bf16⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S2048x128, .f32⟩
  | .local _ .vmem, ⟨11, _⟩ => ⟨S2048x128, .f32⟩
  | .local _ .vmem, ⟨12, _⟩ => ⟨S2x8x256x256, .f32⟩
  | .local _ .vmem, ⟨13, _⟩ => ⟨S256x512, .bf16⟩
  | .local _ .vmem, ⟨14, _⟩ => ⟨S256x512, .bf16⟩
  | .local _ .vmem, ⟨15, _⟩ => ⟨S8x256x256, .bf16⟩
  | .local _ .vmem, ⟨16, _⟩ => ⟨S8x256x128, .bf16⟩
  | .local _ .vmem, ⟨17, _⟩ => ⟨S2048x256, .bf16⟩
  | .local _ .vmem, ⟨18, _⟩ => ⟨S2048x256, .f32⟩
  | .local _ .vmem, ⟨19, _⟩ => ⟨S2048x256, .bf16⟩
  | .local _ .vmem, ⟨20, _⟩ => ⟨S2048x256, .f32⟩
  | .local _ .vmem, ⟨21, _⟩ => ⟨S8x8x256, .f32⟩
  | .local _ .vmem, ⟨22, _⟩ => ⟨S8x80x256, .f32⟩
  | .local _ .vmem, ⟨23, _⟩ => ⟨S2x8x256x256, .f32⟩
  | .local _ .vmem, ⟨24, _⟩ => ⟨S2x8x8x256, .f32⟩
  | .local _ .vmem, ⟨25, _⟩ => ⟨S2x8x8x256, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_182 : BitVec 32 := 1#32
  ⟨c0_i32_180, v468, c1_i32_182⟩
def k0_mult1 (i : grid0.Coords) (k0_t1 : Fin (k0_t1_loop i).trips) : BitVec 32 :=
  let c4_i32_276 : BitVec 32 := 4#32
  let c0_i32_180 : BitVec 32 := 0#32
  let c1_i32_182 : BitVec 32 := 1#32
  let arg21 : BitVec 32 := Scf.iv c0_i32_180 c1_i32_182 k0_t1
  let v586 : BitVec 32 := Scalar.muli c4_i32_276 arg21
  let c0_i32_277 : BitVec 32 := 0#32
  let v587 : BitVec 32 := Scalar.addi v586 c0_i32_277
  let c256_i32 : BitVec 32 := 256#32
  let v588 : BitVec 32 := Scalar.muli v587 c256_i32
  v588
def k0_off1 (i : grid0.Coords) (k0_t1 : Fin (k0_t1_loop i).trips) (c0_i32_277 : BitVec 32) : Fin 2 → Nat :=
  let c4_i32_276 : BitVec 32 := 4#32
  let c0_i32_180 : BitVec 32 := 0#32
  let c1_i32_182 : BitVec 32 := 1#32
  let arg21 : BitVec 32 := Scf.iv c0_i32_180 c1_i32_182 k0_t1
  let v586 : BitVec 32 := Scalar.muli c4_i32_276 arg21
  let v587 : BitVec 32 := Scalar.addi v586 c0_i32_277
  let c256_i32 : BitVec 32 := 256#32
  let v588 : BitVec 32 := Scalar.muli v587 c256_i32
  let v589 : BitVec 32 := v588
  let v590 : Index := Scalar.indexCast v589
  let c0_278 : Index := 0#32
  ![v590.toNat, 0]
def k0_mult2 (i : grid0.Coords) (k0_t1 : Fin (k0_t1_loop i).trips) : BitVec 32 :=
  let c4_i32_276 : BitVec 32 := 4#32
  let c0_i32_180 : BitVec 32 := 0#32
  let c1_i32_182 : BitVec 32 := 1#32
  let arg21 : BitVec 32 := Scf.iv c0_i32_180 c1_i32_182 k0_t1
  let v586 : BitVec 32 := Scalar.muli c4_i32_276 arg21
  let c0_i32_277 : BitVec 32 := 0#32
  let v587 : BitVec 32 := Scalar.addi v586 c0_i32_277
  let c256_i32_321 : BitVec 32 := 256#32
  let v670 : BitVec 32 := Scalar.muli v587 c256_i32_321
  v670
def k0_mult3 (i : grid0.Coords) (k0_t1 : Fin (k0_t1_loop i).trips) : BitVec 32 :=
  let c4_i32_276 : BitVec 32 := 4#32
  let c0_i32_180 : BitVec 32 := 0#32
  let c1_i32_182 : BitVec 32 := 1#32
  let arg21 : BitVec 32 := Scf.iv c0_i32_180 c1_i32_182 k0_t1
  let v586 : BitVec 32 := Scalar.muli c4_i32_276 arg21
  let c0_i32_277 : BitVec 32 := 0#32
  let v587 : BitVec 32 := Scalar.addi v586 c0_i32_277
  let c256_i32_323 : BitVec 32 := 256#32
  let v677 : BitVec 32 := Scalar.muli v587 c256_i32_323
  v677
def k0_mult4 (i : grid0.Coords) (k0_t1 : Fin (k0_t1_loop i).trips) : BitVec 32 :=
  let c4_i32_329 : BitVec 32 := 4#32
  let c0_i32_180 : BitVec 32 := 0#32
  let c1_i32_182 : BitVec 32 := 1#32
  let arg21 : BitVec 32 := Scf.iv c0_i32_180 c1_i32_182 k0_t1
  let v695 : BitVec 32 := Scalar.muli c4_i32_329 arg21
  let c1_i32_330 : BitVec 32 := 1#32
  let v696 : BitVec 32 := Scalar.addi v695 c1_i32_330
  let c256_i32_331 : BitVec 32 := 256#32
  let v697 : BitVec 32 := Scalar.muli v696 c256_i32_331
  v697
def k0_mult5 (i : grid0.Coords) (k0_t1 : Fin (k0_t1_loop i).trips) : BitVec 32 :=
  let c4_i32_329 : BitVec 32 := 4#32
  let c0_i32_180 : BitVec 32 := 0#32
  let c1_i32_182 : BitVec 32 := 1#32
  let arg21 : BitVec 32 := Scf.iv c0_i32_180 c1_i32_182 k0_t1
  let v695 : BitVec 32 := Scalar.muli c4_i32_329 arg21
  let c1_i32_330 : BitVec 32 := 1#32
  let v696 : BitVec 32 := Scalar.addi v695 c1_i32_330
  let c256_i32_375 : BitVec 32 := 256#32
  let v779 : BitVec 32 := Scalar.muli v696 c256_i32_375
  v779
def k0_mult6 (i : grid0.Coords) (k0_t1 : Fin (k0_t1_loop i).trips) : BitVec 32 :=
  let c4_i32_329 : BitVec 32 := 4#32
  let c0_i32_180 : BitVec 32 := 0#32
  let c1_i32_182 : BitVec 32 := 1#32
  let arg21 : BitVec 32 := Scf.iv c0_i32_180 c1_i32_182 k0_t1
  let v695 : BitVec 32 := Scalar.muli c4_i32_329 arg21
  let c1_i32_330 : BitVec 32 := 1#32
  let v696 : BitVec 32 := Scalar.addi v695 c1_i32_330
  let c256_i32_377 : BitVec 32 := 256#32
  let v786 : BitVec 32 := Scalar.muli v696 c256_i32_377
  v786
def k0_mult7 (i : grid0.Coords) (k0_t1 : Fin (k0_t1_loop i).trips) : BitVec 32 :=
  let c4_i32_383 : BitVec 32 := 4#32
  let c0_i32_180 : BitVec 32 := 0#32
  let c1_i32_182 : BitVec 32 := 1#32
  let arg21 : BitVec 32 := Scf.iv c0_i32_180 c1_i32_182 k0_t1
  let v804 : BitVec 32 := Scalar.muli c4_i32_383 arg21
  let c2_i32_384 : BitVec 32 := 2#32
  let v805 : BitVec 32 := Scalar.addi v804 c2_i32_384
  let c256_i32_385 : BitVec 32 := 256#32
  let v806 : BitVec 32 := Scalar.muli v805 c256_i32_385
  v806
def k0_mult8 (i : grid0.Coords) (k0_t1 : Fin (k0_t1_loop i).trips) : BitVec 32 :=
  let c4_i32_383 : BitVec 32 := 4#32
  let c0_i32_180 : BitVec 32 := 0#32
  let c1_i32_182 : BitVec 32 := 1#32
  let arg21 : BitVec 32 := Scf.iv c0_i32_180 c1_i32_182 k0_t1
  let v804 : BitVec 32 := Scalar.muli c4_i32_383 arg21
  let c2_i32_384 : BitVec 32 := 2#32
  let v805 : BitVec 32 := Scalar.addi v804 c2_i32_384
  let c256_i32_429 : BitVec 32 := 256#32
  let v888 : BitVec 32 := Scalar.muli v805 c256_i32_429
  v888
def k0_mult9 (i : grid0.Coords) (k0_t1 : Fin (k0_t1_loop i).trips) : BitVec 32 :=
  let c4_i32_383 : BitVec 32 := 4#32
  let c0_i32_180 : BitVec 32 := 0#32
  let c1_i32_182 : BitVec 32 := 1#32
  let arg21 : BitVec 32 := Scf.iv c0_i32_180 c1_i32_182 k0_t1
  let v804 : BitVec 32 := Scalar.muli c4_i32_383 arg21
  let c2_i32_384 : BitVec 32 := 2#32
  let v805 : BitVec 32 := Scalar.addi v804 c2_i32_384
  let c256_i32_431 : BitVec 32 := 256#32
  let v895 : BitVec 32 := Scalar.muli v805 c256_i32_431
  v895
def k0_mult10 (i : grid0.Coords) (k0_t1 : Fin (k0_t1_loop i).trips) : BitVec 32 :=
  let c4_i32_437 : BitVec 32 := 4#32
  let c0_i32_180 : BitVec 32 := 0#32
  let c1_i32_182 : BitVec 32 := 1#32
  let arg21 : BitVec 32 := Scf.iv c0_i32_180 c1_i32_182 k0_t1
  let v913 : BitVec 32 := Scalar.muli c4_i32_437 arg21
  let c3_i32_438 : BitVec 32 := 3#32
  let v914 : BitVec 32 := Scalar.addi v913 c3_i32_438
  let c256_i32_439 : BitVec 32 := 256#32
  let v915 : BitVec 32 := Scalar.muli v914 c256_i32_439
  v915
def k0_mult11 (i : grid0.Coords) (k0_t1 : Fin (k0_t1_loop i).trips) : BitVec 32 :=
  let c4_i32_437 : BitVec 32 := 4#32
  let c0_i32_180 : BitVec 32 := 0#32
  let c1_i32_182 : BitVec 32 := 1#32
  let arg21 : BitVec 32 := Scf.iv c0_i32_180 c1_i32_182 k0_t1
  let v913 : BitVec 32 := Scalar.muli c4_i32_437 arg21
  let c3_i32_438 : BitVec 32 := 3#32
  let v914 : BitVec 32 := Scalar.addi v913 c3_i32_438
  let c256_i32_483 : BitVec 32 := 256#32
  let v997 : BitVec 32 := Scalar.muli v914 c256_i32_483
  v997
def k0_mult12 (i : grid0.Coords) (k0_t1 : Fin (k0_t1_loop i).trips) : BitVec 32 :=
  let c4_i32_437 : BitVec 32 := 4#32
  let c0_i32_180 : BitVec 32 := 0#32
  let c1_i32_182 : BitVec 32 := 1#32
  let arg21 : BitVec 32 := Scf.iv c0_i32_180 c1_i32_182 k0_t1
  let v913 : BitVec 32 := Scalar.muli c4_i32_437 arg21
  let c3_i32_438 : BitVec 32 := 3#32
  let v914 : BitVec 32 := Scalar.addi v913 c3_i32_438
  let c256_i32_485 : BitVec 32 := 256#32
  let v1004 : BitVec 32 := Scalar.muli v914 c256_i32_485
  v1004
@[reducible] def k0_t2_loop (i : grid0.Coords) : Scf.Loop 32 :=
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let v465 : BitVec 32 := Scalar.addi c0_i32_180 v464
  let c1_i32_183 : BitVec 32 := 1#32
  ⟨v468, v465, c1_i32_183⟩
def k0_mult13 (i : grid0.Coords) (k0_t2 : Fin (k0_t2_loop i).trips) : BitVec 32 :=
  let c4_i32_276 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v586 : BitVec 32 := Scalar.muli c4_i32_276 arg21
  let c0_i32_277 : BitVec 32 := 0#32
  let v587 : BitVec 32 := Scalar.addi v586 c0_i32_277
  let c256_i32 : BitVec 32 := 256#32
  let v588 : BitVec 32 := Scalar.muli v587 c256_i32
  v588
def k0_off2 (i : grid0.Coords) (k0_t2 : Fin (k0_t2_loop i).trips) (c0_i32_277 : BitVec 32) : Fin 2 → Nat :=
  let c4_i32_276 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v586 : BitVec 32 := Scalar.muli c4_i32_276 arg21
  let v587 : BitVec 32 := Scalar.addi v586 c0_i32_277
  let c256_i32 : BitVec 32 := 256#32
  let v588 : BitVec 32 := Scalar.muli v587 c256_i32
  let v589 : BitVec 32 := v588
  let v590 : Index := Scalar.indexCast v589
  let c0_278 : Index := 0#32
  ![v590.toNat, 0]
def k0_mult14 (i : grid0.Coords) (k0_t2 : Fin (k0_t2_loop i).trips) : BitVec 32 :=
  let c4_i32_276 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v586 : BitVec 32 := Scalar.muli c4_i32_276 arg21
  let c0_i32_277 : BitVec 32 := 0#32
  let v587 : BitVec 32 := Scalar.addi v586 c0_i32_277
  let c256_i32_321 : BitVec 32 := 256#32
  let v670 : BitVec 32 := Scalar.muli v587 c256_i32_321
  v670
def k0_mult15 (i : grid0.Coords) (k0_t2 : Fin (k0_t2_loop i).trips) : BitVec 32 :=
  let c4_i32_276 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v586 : BitVec 32 := Scalar.muli c4_i32_276 arg21
  let c0_i32_277 : BitVec 32 := 0#32
  let v587 : BitVec 32 := Scalar.addi v586 c0_i32_277
  let c256_i32_323 : BitVec 32 := 256#32
  let v677 : BitVec 32 := Scalar.muli v587 c256_i32_323
  v677
def k0_mult16 (i : grid0.Coords) (k0_t2 : Fin (k0_t2_loop i).trips) : BitVec 32 :=
  let c4_i32_329 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v695 : BitVec 32 := Scalar.muli c4_i32_329 arg21
  let c1_i32_330 : BitVec 32 := 1#32
  let v696 : BitVec 32 := Scalar.addi v695 c1_i32_330
  let c256_i32_331 : BitVec 32 := 256#32
  let v697 : BitVec 32 := Scalar.muli v696 c256_i32_331
  v697
def k0_mult17 (i : grid0.Coords) (k0_t2 : Fin (k0_t2_loop i).trips) : BitVec 32 :=
  let c4_i32_329 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v695 : BitVec 32 := Scalar.muli c4_i32_329 arg21
  let c1_i32_330 : BitVec 32 := 1#32
  let v696 : BitVec 32 := Scalar.addi v695 c1_i32_330
  let c256_i32_375 : BitVec 32 := 256#32
  let v779 : BitVec 32 := Scalar.muli v696 c256_i32_375
  v779
def k0_mult18 (i : grid0.Coords) (k0_t2 : Fin (k0_t2_loop i).trips) : BitVec 32 :=
  let c4_i32_329 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v695 : BitVec 32 := Scalar.muli c4_i32_329 arg21
  let c1_i32_330 : BitVec 32 := 1#32
  let v696 : BitVec 32 := Scalar.addi v695 c1_i32_330
  let c256_i32_377 : BitVec 32 := 256#32
  let v786 : BitVec 32 := Scalar.muli v696 c256_i32_377
  v786
def k0_mult19 (i : grid0.Coords) (k0_t2 : Fin (k0_t2_loop i).trips) : BitVec 32 :=
  let c4_i32_383 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v804 : BitVec 32 := Scalar.muli c4_i32_383 arg21
  let c2_i32_384 : BitVec 32 := 2#32
  let v805 : BitVec 32 := Scalar.addi v804 c2_i32_384
  let c256_i32_385 : BitVec 32 := 256#32
  let v806 : BitVec 32 := Scalar.muli v805 c256_i32_385
  v806
def k0_mult20 (i : grid0.Coords) (k0_t2 : Fin (k0_t2_loop i).trips) : BitVec 32 :=
  let c4_i32_383 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v804 : BitVec 32 := Scalar.muli c4_i32_383 arg21
  let c2_i32_384 : BitVec 32 := 2#32
  let v805 : BitVec 32 := Scalar.addi v804 c2_i32_384
  let c256_i32_429 : BitVec 32 := 256#32
  let v888 : BitVec 32 := Scalar.muli v805 c256_i32_429
  v888
def k0_mult21 (i : grid0.Coords) (k0_t2 : Fin (k0_t2_loop i).trips) : BitVec 32 :=
  let c4_i32_383 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v804 : BitVec 32 := Scalar.muli c4_i32_383 arg21
  let c2_i32_384 : BitVec 32 := 2#32
  let v805 : BitVec 32 := Scalar.addi v804 c2_i32_384
  let c256_i32_431 : BitVec 32 := 256#32
  let v895 : BitVec 32 := Scalar.muli v805 c256_i32_431
  v895
def k0_mult22 (i : grid0.Coords) (k0_t2 : Fin (k0_t2_loop i).trips) : BitVec 32 :=
  let c4_i32_437 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v913 : BitVec 32 := Scalar.muli c4_i32_437 arg21
  let c3_i32_438 : BitVec 32 := 3#32
  let v914 : BitVec 32 := Scalar.addi v913 c3_i32_438
  let c256_i32_439 : BitVec 32 := 256#32
  let v915 : BitVec 32 := Scalar.muli v914 c256_i32_439
  v915
def k0_mult23 (i : grid0.Coords) (k0_t2 : Fin (k0_t2_loop i).trips) : BitVec 32 :=
  let c4_i32_437 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v913 : BitVec 32 := Scalar.muli c4_i32_437 arg21
  let c3_i32_438 : BitVec 32 := 3#32
  let v914 : BitVec 32 := Scalar.addi v913 c3_i32_438
  let c256_i32_483 : BitVec 32 := 256#32
  let v997 : BitVec 32 := Scalar.muli v914 c256_i32_483
  v997
def k0_mult24 (i : grid0.Coords) (k0_t2 : Fin (k0_t2_loop i).trips) : BitVec 32 :=
  let c4_i32_437 : BitVec 32 := 4#32
  let c0_i32_180 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v445 : BitVec 1 := Scalar.cmpi .sgt v0 c0_i32_170
  let v446 : BitVec 32 := Scalar.extui v445
  let c0_i32_171 : BitVec 32 := 0#32
  let v447 : BitVec 1 := Scalar.cmpi .slt v0 c0_i32_171
  let v448 : BitVec 32 := Scalar.extui v447
  let v449 : BitVec 32 := Scalar.subi v446 v448
  let c4_i32_169 : BitVec 32 := 4#32
  let c0_i32_172 : BitVec 32 := 0#32
  let v450 : BitVec 1 := Scalar.cmpi .sgt c4_i32_169 c0_i32_172
  let v451 : BitVec 32 := Scalar.extui v450
  let c0_i32_173 : BitVec 32 := 0#32
  let v452 : BitVec 1 := Scalar.cmpi .slt c4_i32_169 c0_i32_173
  let v453 : BitVec 32 := Scalar.extui v452
  let v454 : BitVec 32 := Scalar.subi v451 v453
  let v455 : BitVec 1 := Scalar.cmpi .ne v449 v454
  let v456 : BitVec 32 := Scalar.remsi v0 c4_i32_169
  let c0_i32_174 : BitVec 32 := 0#32
  let v457 : BitVec 1 := Scalar.cmpi .ne v456 c0_i32_174
  let v458 : BitVec 1 := Scalar.andi v455 v457
  let v444 : BitVec 32 := Scalar.divsi v0 c4_i32_169
  let c1_i32_175 : BitVec 32 := 1#32
  let v459 : BitVec 32 := Scalar.subi v444 c1_i32_175
  let v460 : BitVec 32 := Scalar.select v458 v459 v444
  let v464 : BitVec 32 := Scalar.subi v460 c0_i32_180
  let c1_i32_181 : BitVec 32 := 1#32
  let v466 : BitVec 32 := Scalar.divsi v464 c1_i32_181
  let v467 : BitVec 32 := Scalar.muli v466 c1_i32_181
  let v468 : BitVec 32 := Scalar.addi c0_i32_180 v467
  let c1_i32_183 : BitVec 32 := 1#32
  let arg21 : BitVec 32 := Scf.iv v468 c1_i32_183 k0_t2
  let v913 : BitVec 32 := Scalar.muli c4_i32_437 arg21
  let c3_i32_438 : BitVec 32 := 3#32
  let v914 : BitVec 32 := Scalar.addi v913 c3_i32_438
  let c256_i32_485 : BitVec 32 := 256#32
  let v1004 : BitVec 32 := Scalar.muli v914 c256_i32_485
  v1004
def k0_cond2 (i : grid0.Coords) : BitVec 1 :=
  let arg1 : BitVec 32 := BitVec.ofNat 32 (i 1).val
  let c1_i32 : BitVec 32 := 1#32
  let v0 : BitVec 32 := Scalar.addi arg1 c1_i32
  let c4_i32_191 : BitVec 32 := 4#32
  let c0_i32_185 : BitVec 32 := 0#32
  let v472 : BitVec 1 := Scalar.cmpi .sgt v0 c0_i32_185
  let v473 : BitVec 32 := Scalar.extui v472
  let c0_i32_186 : BitVec 32 := 0#32
  let v474 : BitVec 1 := Scalar.cmpi .slt v0 c0_i32_186
  let v475 : BitVec 32 := Scalar.extui v474
  let v476 : BitVec 32 := Scalar.subi v473 v475
  let c4_i32_184 : BitVec 32 := 4#32
  let c0_i32_187 : BitVec 32 := 0#32
  let v477 : BitVec 1 := Scalar.cmpi .sgt c4_i32_184 c0_i32_187
  let v478 : BitVec 32 := Scalar.extui v477
  let c0_i32_188 : BitVec 32 := 0#32
  let v479 : BitVec 1 := Scalar.cmpi .slt c4_i32_184 c0_i32_188
  let v480 : BitVec 32 := Scalar.extui v479
  let v481 : BitVec 32 := Scalar.subi v478 v480
  let v482 : BitVec 1 := Scalar.cmpi .ne v476 v481
  let v483 : BitVec 32 := Scalar.remsi v0 c4_i32_184
  let c0_i32_189 : BitVec 32 := 0#32
  let v484 : BitVec 1 := Scalar.cmpi .ne v483 c0_i32_189
  let v485 : BitVec 1 := Scalar.andi v482 v484
  let v471 : BitVec 32 := Scalar.divsi v0 c4_i32_184
  let c1_i32_190 : BitVec 32 := 1#32
  let v486 : BitVec 32 := Scalar.subi v471 c1_i32_190
  let v487 : BitVec 32 := Scalar.select v485 v486 v471
  let v488 : BitVec 32 := Scalar.muli c4_i32_191 v487
  let v489 : BitVec 32 := Scalar.subi v0 v488
  let c2_i32_192 : BitVec 32 := 2#32
  let v490 : BitVec 1 := Scalar.cmpi .sge v489 c2_i32_192
  let v491 : BitVec 32 := Scalar.extui v490
  let c0_i32_194 : BitVec 32 := 0#32
  let v492 : BitVec 1 := Scalar.cmpi .ne v491 c0_i32_194
  v492

def k0_mult25 (i : grid0.Coords) : BitVec 32 :=
  let c4_i32_191 : BitVec 32 := 4#32
  let arg1 : BitVec 32 := BitVec.ofNat 32 (i 1).val
  let c1_i32 : BitVec 32 := 1#32
  let v0 : BitVec 32 := Scalar.addi arg1 c1_i32
  let c0_i32_185 : BitVec 32 := 0#32
  let v472 : BitVec 1 := Scalar.cmpi .sgt v0 c0_i32_185
  let v473 : BitVec 32 := Scalar.extui v472
  let c0_i32_186 : BitVec 32 := 0#32
  let v474 : BitVec 1 := Scalar.cmpi .slt v0 c0_i32_186
  let v475 : BitVec 32 := Scalar.extui v474
  let v476 : BitVec 32 := Scalar.subi v473 v475
  let c4_i32_184 : BitVec 32 := 4#32
  let c0_i32_187 : BitVec 32 := 0#32
  let v477 : BitVec 1 := Scalar.cmpi .sgt c4_i32_184 c0_i32_187
  let v478 : BitVec 32 := Scalar.extui v477
  let c0_i32_188 : BitVec 32 := 0#32
  let v479 : BitVec 1 := Scalar.cmpi .slt c4_i32_184 c0_i32_188
  let v480 : BitVec 32 := Scalar.extui v479
  let v481 : BitVec 32 := Scalar.subi v478 v480
  let v482 : BitVec 1 := Scalar.cmpi .ne v476 v481
  let v483 : BitVec 32 := Scalar.remsi v0 c4_i32_184
  let c0_i32_189 : BitVec 32 := 0#32
  let v484 : BitVec 1 := Scalar.cmpi .ne v483 c0_i32_189
  let v485 : BitVec 1 := Scalar.andi v482 v484
  let v471 : BitVec 32 := Scalar.divsi v0 c4_i32_184
  let c1_i32_190 : BitVec 32 := 1#32
  let v486 : BitVec 32 := Scalar.subi v471 c1_i32_190
  let v487 : BitVec 32 := Scalar.select v485 v486 v471
  let v488 : BitVec 32 := Scalar.muli c4_i32_191 v487
  let c256_i32 : BitVec 32 := 256#32
  let v587 : BitVec 32 := Scalar.muli v488 c256_i32
  v587
def k0_off3 (i : grid0.Coords) : Fin 2 → Nat :=
  let c4_i32_191 : BitVec 32 := 4#32
  let arg1 : BitVec 32 := BitVec.ofNat 32 (i 1).val
  let c1_i32 : BitVec 32 := 1#32
  let v0 : BitVec 32 := Scalar.addi arg1 c1_i32
  let c0_i32_185 : BitVec 32 := 0#32
  let v472 : BitVec 1 := Scalar.cmpi .sgt v0 c0_i32_185
  let v473 : BitVec 32 := Scalar.extui v472
  let c0_i32_186 : BitVec 32 := 0#32
  let v474 : BitVec 1 := Scalar.cmpi .slt v0 c0_i32_186
  let v475 : BitVec 32 := Scalar.extui v474
  let v476 : BitVec 32 := Scalar.subi v473 v475
  let c4_i32_184 : BitVec 32 := 4#32
  let c0_i32_187 : BitVec 32 := 0#32
  let v477 : BitVec 1 := Scalar.cmpi .sgt c4_i32_184 c0_i32_187
  let v478 : BitVec 32 := Scalar.extui v477
  let c0_i32_188 : BitVec 32 := 0#32
  let v479 : BitVec 1 := Scalar.cmpi .slt c4_i32_184 c0_i32_188
  let v480 : BitVec 32 := Scalar.extui v479
  let v481 : BitVec 32 := Scalar.subi v478 v480
  let v482 : BitVec 1 := Scalar.cmpi .ne v476 v481
  let v483 : BitVec 32 := Scalar.remsi v0 c4_i32_184
  let c0_i32_189 : BitVec 32 := 0#32
  let v484 : BitVec 1 := Scalar.cmpi .ne v483 c0_i32_189
  let v485 : BitVec 1 := Scalar.andi v482 v484
  let v471 : BitVec 32 := Scalar.divsi v0 c4_i32_184
  let c1_i32_190 : BitVec 32 := 1#32
  let v486 : BitVec 32 := Scalar.subi v471 c1_i32_190
  let v487 : BitVec 32 := Scalar.select v485 v486 v471
  let v488 : BitVec 32 := Scalar.muli c4_i32_191 v487
  let c256_i32 : BitVec 32 := 256#32
  let v587 : BitVec 32 := Scalar.muli v488 c256_i32
  let v588 : BitVec 32 := v587
  let v589 : Index := Scalar.indexCast v588
  let c0_277 : Index := 0#32
  ![v589.toNat, 0]
def k0_mult26 (i : grid0.Coords) : BitVec 32 :=
  let c4_i32_191 : BitVec 32 := 4#32
  let arg1 : BitVec 32 := BitVec.ofNat 32 (i 1).val
  let c1_i32 : BitVec 32 := 1#32
  let v0 : BitVec 32 := Scalar.addi arg1 c1_i32
  let c0_i32_185 : BitVec 32 := 0#32
  let v472 : BitVec 1 := Scalar.cmpi .sgt v0 c0_i32_185
  let v473 : BitVec 32 := Scalar.extui v472
  let c0_i32_186 : BitVec 32 := 0#32
  let v474 : BitVec 1 := Scalar.cmpi .slt v0 c0_i32_186
  let v475 : BitVec 32 := Scalar.extui v474
  let v476 : BitVec 32 := Scalar.subi v473 v475
  let c4_i32_184 : BitVec 32 := 4#32
  let c0_i32_187 : BitVec 32 := 0#32
  let v477 : BitVec 1 := Scalar.cmpi .sgt c4_i32_184 c0_i32_187
  let v478 : BitVec 32 := Scalar.extui v477
  let c0_i32_188 : BitVec 32 := 0#32
  let v479 : BitVec 1 := Scalar.cmpi .slt c4_i32_184 c0_i32_188
  let v480 : BitVec 32 := Scalar.extui v479
  let v481 : BitVec 32 := Scalar.subi v478 v480
  let v482 : BitVec 1 := Scalar.cmpi .ne v476 v481
  let v483 : BitVec 32 := Scalar.remsi v0 c4_i32_184
  let c0_i32_189 : BitVec 32 := 0#32
  let v484 : BitVec 1 := Scalar.cmpi .ne v483 c0_i32_189
  let v485 : BitVec 1 := Scalar.andi v482 v484
  let v471 : BitVec 32 := Scalar.divsi v0 c4_i32_184
  let c1_i32_190 : BitVec 32 := 1#32
  let v486 : BitVec 32 := Scalar.subi v471 c1_i32_190
  let v487 : BitVec 32 := Scalar.select v485 v486 v471
  let v488 : BitVec 32 := Scalar.muli c4_i32_191 v487
  let c256_i32_320 : BitVec 32 := 256#32
  let v669 : BitVec 32 := Scalar.muli v488 c256_i32_320
  v669
def k0_mult27 (i : grid0.Coords) : BitVec 32 :=
  let c4_i32_191 : BitVec 32 := 4#32
  let arg1 : BitVec 32 := BitVec.ofNat 32 (i 1).val
  let c1_i32 : BitVec 32 := 1#32
  let v0 : BitVec 32 := Scalar.addi arg1 c1_i32
  let c0_i32_185 : BitVec 32 := 0#32
  let v472 : BitVec 1 := Scalar.cmpi .sgt v0 c0_i32_185
  let v473 : BitVec 32 := Scalar.extui v472
  let c0_i32_186 : BitVec 32 := 0#32
  let v474 : BitVec 1 := Scalar.cmpi .slt v0 c0_i32_186
  let v475 : BitVec 32 := Scalar.extui v474
  let v476 : BitVec 32 := Scalar.subi v473 v475
  let c4_i32_184 : BitVec 32 := 4#32
  let c0_i32_187 : BitVec 32 := 0#32
  let v477 : BitVec 1 := Scalar.cmpi .sgt c4_i32_184 c0_i32_187
  let v478 : BitVec 32 := Scalar.extui v477
  let c0_i32_188 : BitVec 32 := 0#32
  let v479 : BitVec 1 := Scalar.cmpi .slt c4_i32_184 c0_i32_188
  let v480 : BitVec 32 := Scalar.extui v479
  let v481 : BitVec 32 := Scalar.subi v478 v480
  let v482 : BitVec 1 := Scalar.cmpi .ne v476 v481
  let v483 : BitVec 32 := Scalar.remsi v0 c4_i32_184
  let c0_i32_189 : BitVec 32 := 0#32
  let v484 : BitVec 1 := Scalar.cmpi .ne v483 c0_i32_189
  let v485 : BitVec 1 := Scalar.andi v482 v484
  let v471 : BitVec 32 := Scalar.divsi v0 c4_i32_184
  let c1_i32_190 : BitVec 32 := 1#32
  let v486 : BitVec 32 := Scalar.subi v471 c1_i32_190
  let v487 : BitVec 32 := Scalar.select v485 v486 v471
  let v488 : BitVec 32 := Scalar.muli c4_i32_191 v487
  let c256_i32_322 : BitVec 32 := 256#32
  let v676 : BitVec 32 := Scalar.muli v488 c256_i32_322
  v676
def k0_mult28 (i : grid0.Coords) : BitVec 32 :=
  let c4_i32_191 : BitVec 32 := 4#32
  let arg1 : BitVec 32 := BitVec.ofNat 32 (i 1).val
  let c1_i32 : BitVec 32 := 1#32
  let v0 : BitVec 32 := Scalar.addi arg1 c1_i32
  let c0_i32_185 : BitVec 32 := 0#32
  let v472 : BitVec 1 := Scalar.cmpi .sgt v0 c0_i32_185
  let v473 : BitVec 32 := Scalar.extui v472
  let c0_i32_186 : BitVec 32 := 0#32
  let v474 : BitVec 1 := Scalar.cmpi .slt v0 c0_i32_186
  let v475 : BitVec 32 := Scalar.extui v474
  let v476 : BitVec 32 := Scalar.subi v473 v475
  let c4_i32_184 : BitVec 32 := 4#32
  let c0_i32_187 : BitVec 32 := 0#32
  let v477 : BitVec 1 := Scalar.cmpi .sgt c4_i32_184 c0_i32_187
  let v478 : BitVec 32 := Scalar.extui v477
  let c0_i32_188 : BitVec 32 := 0#32
  let v479 : BitVec 1 := Scalar.cmpi .slt c4_i32_184 c0_i32_188
  let v480 : BitVec 32 := Scalar.extui v479
  let v481 : BitVec 32 := Scalar.subi v478 v480
  let v482 : BitVec 1 := Scalar.cmpi .ne v476 v481
  let v483 : BitVec 32 := Scalar.remsi v0 c4_i32_184
  let c0_i32_189 : BitVec 32 := 0#32
  let v484 : BitVec 1 := Scalar.cmpi .ne v483 c0_i32_189
  let v485 : BitVec 1 := Scalar.andi v482 v484
  let v471 : BitVec 32 := Scalar.divsi v0 c4_i32_184
  let c1_i32_190 : BitVec 32 := 1#32
  let v486 : BitVec 32 := Scalar.subi v471 c1_i32_190
  let v487 : BitVec 32 := Scalar.select v485 v486 v471
  let v488 : BitVec 32 := Scalar.muli c4_i32_191 v487
  let c1_i32_276 : BitVec 32 := 1#32
  let v586 : BitVec 32 := Scalar.addi v488 c1_i32_276
  let c256_i32_328 : BitVec 32 := 256#32
  let v694 : BitVec 32 := Scalar.muli v586 c256_i32_328
  v694
def k0_off4 (i : grid0.Coords) : Fin 2 → Nat :=
  let c4_i32_191 : BitVec 32 := 4#32
  let arg1 : BitVec 32 := BitVec.ofNat 32 (i 1).val
  let c1_i32 : BitVec 32 := 1#32
  let v0 : BitVec 32 := Scalar.addi arg1 c1_i32
  let c0_i32_185 : BitVec 32 := 0#32
  let v472 : BitVec 1 := Scalar.cmpi .sgt v0 c0_i32_185
  let v473 : BitVec 32 := Scalar.extui v472
  let c0_i32_186 : BitVec 32 := 0#32
  let v474 : BitVec 1 := Scalar.cmpi .slt v0 c0_i32_186
  let v475 : BitVec 32 := Scalar.extui v474
  let v476 : BitVec 32 := Scalar.subi v473 v475
  let c4_i32_184 : BitVec 32 := 4#32
  let c0_i32_187 : BitVec 32 := 0#32
  let v477 : BitVec 1 := Scalar.cmpi .sgt c4_i32_184 c0_i32_187
  let v478 : BitVec 32 := Scalar.extui v477
  let c0_i32_188 : BitVec 32 := 0#32
  let v479 : BitVec 1 := Scalar.cmpi .slt c4_i32_184 c0_i32_188
  let v480 : BitVec 32 := Scalar.extui v479
  let v481 : BitVec 32 := Scalar.subi v478 v480
  let v482 : BitVec 1 := Scalar.cmpi .ne v476 v481
  let v483 : BitVec 32 := Scalar.remsi v0 c4_i32_184
  let c0_i32_189 : BitVec 32 := 0#32
  let v484 : BitVec 1 := Scalar.cmpi .ne v483 c0_i32_189
  let v485 : BitVec 1 := Scalar.andi v482 v484
  let v471 : BitVec 32 := Scalar.divsi v0 c4_i32_184
  let c1_i32_190 : BitVec 32 := 1#32
  let v486 : BitVec 32 := Scalar.subi v471 c1_i32_190
  let v487 : BitVec 32 := Scalar.select v485 v486 v471
  let v488 : BitVec 32 := Scalar.muli c4_i32_191 v487
  let c1_i32_276 : BitVec 32 := 1#32
  let v586 : BitVec 32 := Scalar.addi v488 c1_i32_276
  let c256_i32_328 : BitVec 32 := 256#32
  let v694 : BitVec 32 := Scalar.muli v586 c256_i32_328
  let v695 : BitVec 32 := v694
  let v696 : Index := Scalar.indexCast v695
  let c0_329 : Index := 0#32
  ![v696.toNat, 0]
def k0_mult29 (i : grid0.Coords) : BitVec 32 :=
  let c4_i32_191 : BitVec 32 := 4#32
  let arg1 : BitVec 32 := BitVec.ofNat 32 (i 1).val
  let c1_i32 : BitVec 32 := 1#32
  let v0 : BitVec 32 := Scalar.addi arg1 c1_i32
  let c0_i32_185 : BitVec 32 := 0#32
  let v472 : BitVec 1 := Scalar.cmpi .sgt v0 c0_i32_185
  let v473 : BitVec 32 := Scalar.extui v472
  let c0_i32_186 : BitVec 32 := 0#32
  let v474 : BitVec 1 := Scalar.cmpi .slt v0 c0_i32_186
  let v475 : BitVec 32 := Scalar.extui v474
  let v476 : BitVec 32 := Scalar.subi v473 v475
  let c4_i32_184 : BitVec 32 := 4#32
  let c0_i32_187 : BitVec 32 := 0#32
  let v477 : BitVec 1 := Scalar.cmpi .sgt c4_i32_184 c0_i32_187
  let v478 : BitVec 32 := Scalar.extui v477
  let c0_i32_188 : BitVec 32 := 0#32
  let v479 : BitVec 1 := Scalar.cmpi .slt c4_i32_184 c0_i32_188
  let v480 : BitVec 32 := Scalar.extui v479
  let v481 : BitVec 32 := Scalar.subi v478 v480
  let v482 : BitVec 1 := Scalar.cmpi .ne v476 v481
  let v483 : BitVec 32 := Scalar.remsi v0 c4_i32_184
  let c0_i32_189 : BitVec 32 := 0#32
  let v484 : BitVec 1 := Scalar.cmpi .ne v483 c0_i32_189
  let v485 : BitVec 1 := Scalar.andi v482 v484
  let v471 : BitVec 32 := Scalar.divsi v0 c4_i32_184
  let c1_i32_190 : BitVec 32 := 1#32
  let v486 : BitVec 32 := Scalar.subi v471 c1_i32_190
  let v487 : BitVec 32 := Scalar.select v485 v486 v471
  let v488 : BitVec 32 := Scalar.muli c4_i32_191 v487
  let c1_i32_276 : BitVec 32 := 1#32
  let v586 : BitVec 32 := Scalar.addi v488 c1_i32_276
  let c256_i32_372 : BitVec 32 := 256#32
  let v776 : BitVec 32 := Scalar.muli v586 c256_i32_372
  v776
def k0_mult30 (i : grid0.Coords) : BitVec 32 :=
  let c4_i32_191 : BitVec 32 := 4#32
  let arg1 : BitVec 32 := BitVec.ofNat 32 (i 1).val
  let c1_i32 : BitVec 32 := 1#32
  let v0 : BitVec 32 := Scalar.addi arg1 c1_i32
  let c0_i32_185 : BitVec 32 := 0#32
  let v472 : BitVec 1 := Scalar.cmpi .sgt v0 c0_i32_185
  let v473 : BitVec 32 := Scalar.extui v472
  let c0_i32_186 : BitVec 32 := 0#32
  let v474 : BitVec 1 := Scalar.cmpi .slt v0 c0_i32_186
  let v475 : BitVec 32 := Scalar.extui v474
  let v476 : BitVec 32 := Scalar.subi v473 v475
  let c4_i32_184 : BitVec 32 := 4#32
  let c0_i32_187 : BitVec 32 := 0#32
  let v477 : BitVec 1 := Scalar.cmpi .sgt c4_i32_184 c0_i32_187
  let v478 : BitVec 32 := Scalar.extui v477
  let c0_i32_188 : BitVec 32 := 0#32
  let v479 : BitVec 1 := Scalar.cmpi .slt c4_i32_184 c0_i32_188
  let v480 : BitVec 32 := Scalar.extui v479
  let v481 : BitVec 32 := Scalar.subi v478 v480
  let v482 : BitVec 1 := Scalar.cmpi .ne v476 v481
  let v483 : BitVec 32 := Scalar.remsi v0 c4_i32_184
  let c0_i32_189 : BitVec 32 := 0#32
  let v484 : BitVec 1 := Scalar.cmpi .ne v483 c0_i32_189
  let v485 : BitVec 1 := Scalar.andi v482 v484
  let v471 : BitVec 32 := Scalar.divsi v0 c4_i32_184
  let c1_i32_190 : BitVec 32 := 1#32
  let v486 : BitVec 32 := Scalar.subi v471 c1_i32_190
  let v487 : BitVec 32 := Scalar.select v485 v486 v471
  let v488 : BitVec 32 := Scalar.muli c4_i32_191 v487
  let c1_i32_276 : BitVec 32 := 1#32
  let v586 : BitVec 32 := Scalar.addi v488 c1_i32_276
  let c256_i32_374 : BitVec 32 := 256#32
  let v783 : BitVec 32 := Scalar.muli v586 c256_i32_374
  v783
def k0_cond3 (i : grid0.Coords) : BitVec 1 :=
  let arg1 : BitVec 32 := BitVec.ofNat 32 (i 1).val
  let c1_i32 : BitVec 32 := 1#32
  let v0 : BitVec 32 := Scalar.addi arg1 c1_i32
  let c2_i32_195 : BitVec 32 := 2#32
  let c0_i32_196 : BitVec 32 := 0#32
  let v494 : BitVec 1 := Scalar.cmpi .eq c2_i32_195 c0_i32_196
  let c1_i32_197 : BitVec 32 := 1#32
  let v495 : BitVec 32 := Scalar.select v494 c1_i32_197 c2_i32_195
  let v496 : BitVec 32 := Scalar.remsi v0 v495
  let c0_i32_199 : BitVec 32 := 0#32
  let v498 : BitVec 1 := Scalar.cmpi .slt v496 c0_i32_199
  let c0_i32_200 : BitVec 32 := 0#32
  let v499 : BitVec 1 := Scalar.cmpi .slt v495 c0_i32_200
  let v500 : BitVec 1 := Scalar.xori v498 v499
  let c0_i32_198 : BitVec 32 := 0#32
  let v497 : BitVec 1 := Scalar.cmpi .ne v496 c0_i32_198
  let v501 : BitVec 1 := Scalar.andi v500 v497
  let v502 : BitVec 32 := Scalar.addi v496 v495
  let v503 : BitVec 32 := Scalar.select v501 v502 v496
  let c1_i32_201 : BitVec 32 := 1#32
  let v504 : BitVec 1 := Scalar.cmpi .eq v503 c1_i32_201
  let v505 : BitVec 32 := Scalar.extui v504
  let c0_i32_203 : BitVec 32 := 0#32
  let v506 : BitVec 1 := Scalar.cmpi .ne v505 c0_i32_203
  v506

def k0_mult31 (i : grid0.Coords) : BitVec 32 :=
  let arg1 : BitVec 32 := BitVec.ofNat 32 (i 1).val
  let c1_i32 : BitVec 32 := 1#32
  let v0 : BitVec 32 := Scalar.addi arg1 c1_i32
  let c1_i32_276 : BitVec 32 := 1#32
  let v586 : BitVec 32 := Scalar.subi v0 c1_i32_276
  let c256_i32 : BitVec 32 := 256#32
  let v587 : BitVec 32 := Scalar.muli v586 c256_i32
  v587
def k0_off5 (i : grid0.Coords) : Fin 2 → Nat :=
  let arg1 : BitVec 32 := BitVec.ofNat 32 (i 1).val
  let c1_i32 : BitVec 32 := 1#32
  let v0 : BitVec 32 := Scalar.addi arg1 c1_i32
  let c1_i32_276 : BitVec 32 := 1#32
  let v586 : BitVec 32 := Scalar.subi v0 c1_i32_276
  let c256_i32 : BitVec 32 := 256#32
  let v587 : BitVec 32 := Scalar.muli v586 c256_i32
  let v588 : BitVec 32 := v587
  let v589 : Index := Scalar.indexCast v588
  let c0_277 : Index := 0#32
  ![v589.toNat, 0]
def k0_mult32 (i : grid0.Coords) : BitVec 32 :=
  let arg1 : BitVec 32 := BitVec.ofNat 32 (i 1).val
  let c1_i32 : BitVec 32 := 1#32
  let v0 : BitVec 32 := Scalar.addi arg1 c1_i32
  let c1_i32_276 : BitVec 32 := 1#32
  let v586 : BitVec 32 := Scalar.subi v0 c1_i32_276
  let c256_i32_320 : BitVec 32 := 256#32
  let v669 : BitVec 32 := Scalar.muli v586 c256_i32_320
  v669
def k0_mult33 (i : grid0.Coords) : BitVec 32 :=
  let arg1 : BitVec 32 := BitVec.ofNat 32 (i 1).val
  let c1_i32 : BitVec 32 := 1#32
  let v0 : BitVec 32 := Scalar.addi arg1 c1_i32
  let c1_i32_276 : BitVec 32 := 1#32
  let v586 : BitVec 32 := Scalar.subi v0 c1_i32_276
  let c256_i32_322 : BitVec 32 := 256#32
  let v676 : BitVec 32 := Scalar.muli v586 c256_i32_322
  v676
def k0_cond5 (i : grid0.Coords) : BitVec 1 :=
  let arg1 : BitVec 32 := BitVec.ofNat 32 (i 1).val
  let c0_i32_206 : BitVec 32 := 0#32
  let v511 : BitVec 1 := Scalar.cmpi .sgt arg1 c0_i32_206
  let v512 : BitVec 32 := Scalar.extui v511
  let c0_i32_209 : BitVec 32 := 0#32
  let v513 : BitVec 1 := Scalar.cmpi .ne v512 c0_i32_209
  v513

def k0_cond6 (i : grid0.Coords) : BitVec 1 :=
  let arg1 : BitVec 32 := BitVec.ofNat 32 (i 1).val
  let c1_i32 : BitVec 32 := 1#32
  let v0 : BitVec 32 := Scalar.addi arg1 c1_i32
  let c2_i32_276 : BitVec 32 := 2#32
  let c0_i32_277 : BitVec 32 := 0#32
  let v586 : BitVec 1 := Scalar.cmpi .eq c2_i32_276 c0_i32_277
  let c1_i32_278 : BitVec 32 := 1#32
  let v587 : BitVec 32 := Scalar.select v586 c1_i32_278 c2_i32_276
  let v588 : BitVec 32 := Scalar.remsi v0 v587
  let c0_i32_280 : BitVec 32 := 0#32
  let v590 : BitVec 1 := Scalar.cmpi .slt v588 c0_i32_280
  let c0_i32_281 : BitVec 32 := 0#32
  let v591 : BitVec 1 := Scalar.cmpi .slt v587 c0_i32_281
  let v592 : BitVec 1 := Scalar.xori v590 v591
  let c0_i32_279 : BitVec 32 := 0#32
  let v589 : BitVec 1 := Scalar.cmpi .ne v588 c0_i32_279
  let v593 : BitVec 1 := Scalar.andi v592 v589
  let v594 : BitVec 32 := Scalar.addi v588 v587
  let v595 : BitVec 32 := Scalar.select v593 v594 v588
  let c1_i32_282 : BitVec 32 := 1#32
  let v596 : BitVec 1 := Scalar.cmpi .eq v595 c1_i32_282
  let v597 : BitVec 32 := Scalar.extui v596
  let c0_i32_283 : BitVec 32 := 0#32
  let v598 : BitVec 1 := Scalar.cmpi .ne v597 c0_i32_283
  v598

def k0_mult34 (i : grid0.Coords) : BitVec 32 :=
  let arg1 : BitVec 32 := BitVec.ofNat 32 (i 1).val
  let c1_i32 : BitVec 32 := 1#32
  let v0 : BitVec 32 := Scalar.addi arg1 c1_i32
  let c256_i32_312 : BitVec 32 := 256#32
  let v679 : BitVec 32 := Scalar.muli v0 c256_i32_312
  v679
def k0_off6 (i : grid0.Coords) : Fin 2 → Nat :=
  let arg1 : BitVec 32 := BitVec.ofNat 32 (i 1).val
  let c1_i32 : BitVec 32 := 1#32
  let v0 : BitVec 32 := Scalar.addi arg1 c1_i32
  let c256_i32_312 : BitVec 32 := 256#32
  let v679 : BitVec 32 := Scalar.muli v0 c256_i32_312
  let v680 : BitVec 32 := v679
  let v681 : Index := Scalar.indexCast v680
  let c0_313 : Index := 0#32
  ![v681.toNat, 0]
def k0_mult35 (i : grid0.Coords) : BitVec 32 :=
  let arg1 : BitVec 32 := BitVec.ofNat 32 (i 1).val
  let c1_i32 : BitVec 32 := 1#32
  let v0 : BitVec 32 := Scalar.addi arg1 c1_i32
  let c256_i32_315 : BitVec 32 := 256#32
  let v686 : BitVec 32 := Scalar.muli v0 c256_i32_315
  v686
@[reducible] def k0_t3_loop : Scf.Loop 32 :=
  let c0_i32_296 : BitVec 32 := 0#32
  let c10_i32 : BitVec 32 := 10#32
  let v637 : BitVec 32 := Scalar.addi c0_i32_296 c10_i32
  let c1_i32_297 : BitVec 32 := 1#32
  ⟨c0_i32_296, v637, c1_i32_297⟩
@[reducible] def k0_t4_loop (i : grid0.Coords) : Scf.Loop 32 :=
  let c0_i32_314 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v691 : BitVec 32 := Scalar.subi v18 c0_i32_314
  let c1_i32_315 : BitVec 32 := 1#32
  let v693 : BitVec 32 := Scalar.divsi v691 c1_i32_315
  let v694 : BitVec 32 := Scalar.muli v693 c1_i32_315
  let v695 : BitVec 32 := Scalar.addi c0_i32_314 v694
  let c1_i32_316 : BitVec 32 := 1#32
  ⟨c0_i32_314, v695, c1_i32_316⟩
def k0_mult36 (i : grid0.Coords) (k0_t4 : Fin (k0_t4_loop i).trips) : BitVec 32 :=
  let c0_i32_314 : BitVec 32 := 0#32
  let c1_i32_316 : BitVec 32 := 1#32
  let arg25 : BitVec 32 := Scf.iv c0_i32_314 c1_i32_316 k0_t4
  let c2_i32_320 : BitVec 32 := 2#32
  let v707 : BitVec 32 := Scalar.muli arg25 c2_i32_320
  let c256_i32_321 : BitVec 32 := 256#32
  let v708 : BitVec 32 := Scalar.muli v707 c256_i32_321
  v708
def k0_off7 (i : grid0.Coords) (k0_t4 : Fin (k0_t4_loop i).trips) : Fin 2 → Nat :=
  let c0_i32_314 : BitVec 32 := 0#32
  let c1_i32_316 : BitVec 32 := 1#32
  let arg25 : BitVec 32 := Scf.iv c0_i32_314 c1_i32_316 k0_t4
  let c2_i32_320 : BitVec 32 := 2#32
  let v707 : BitVec 32 := Scalar.muli arg25 c2_i32_320
  let c256_i32_321 : BitVec 32 := 256#32
  let v708 : BitVec 32 := Scalar.muli v707 c256_i32_321
  let v709 : BitVec 32 := v708
  let v710 : Index := Scalar.indexCast v709
  let c0_322 : Index := 0#32
  ![v710.toNat, 0]
@[reducible] def k0_t5_loop (i : grid0.Coords) : Scf.Loop 32 :=
  let c0_i32_314 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v691 : BitVec 32 := Scalar.subi v18 c0_i32_314
  let c1_i32_315 : BitVec 32 := 1#32
  let v693 : BitVec 32 := Scalar.divsi v691 c1_i32_315
  let v694 : BitVec 32 := Scalar.muli v693 c1_i32_315
  let v695 : BitVec 32 := Scalar.addi c0_i32_314 v694
  let v692 : BitVec 32 := Scalar.addi c0_i32_314 v691
  let c1_i32_317 : BitVec 32 := 1#32
  ⟨v695, v692, c1_i32_317⟩
def k0_mult37 (i : grid0.Coords) (k0_t5 : Fin (k0_t5_loop i).trips) : BitVec 32 :=
  let c0_i32_314 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v691 : BitVec 32 := Scalar.subi v18 c0_i32_314
  let c1_i32_315 : BitVec 32 := 1#32
  let v693 : BitVec 32 := Scalar.divsi v691 c1_i32_315
  let v694 : BitVec 32 := Scalar.muli v693 c1_i32_315
  let v695 : BitVec 32 := Scalar.addi c0_i32_314 v694
  let c1_i32_317 : BitVec 32 := 1#32
  let arg25 : BitVec 32 := Scf.iv v695 c1_i32_317 k0_t5
  let c2_i32_320 : BitVec 32 := 2#32
  let v707 : BitVec 32 := Scalar.muli arg25 c2_i32_320
  let c256_i32_321 : BitVec 32 := 256#32
  let v708 : BitVec 32 := Scalar.muli v707 c256_i32_321
  v708
def k0_off8 (i : grid0.Coords) (k0_t5 : Fin (k0_t5_loop i).trips) : Fin 2 → Nat :=
  let c0_i32_314 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v691 : BitVec 32 := Scalar.subi v18 c0_i32_314
  let c1_i32_315 : BitVec 32 := 1#32
  let v693 : BitVec 32 := Scalar.divsi v691 c1_i32_315
  let v694 : BitVec 32 := Scalar.muli v693 c1_i32_315
  let v695 : BitVec 32 := Scalar.addi c0_i32_314 v694
  let c1_i32_317 : BitVec 32 := 1#32
  let arg25 : BitVec 32 := Scf.iv v695 c1_i32_317 k0_t5
  let c2_i32_320 : BitVec 32 := 2#32
  let v707 : BitVec 32 := Scalar.muli arg25 c2_i32_320
  let c256_i32_321 : BitVec 32 := 256#32
  let v708 : BitVec 32 := Scalar.muli v707 c256_i32_321
  let v709 : BitVec 32 := v708
  let v710 : Index := Scalar.indexCast v709
  let c0_322 : Index := 0#32
  ![v710.toNat, 0]
@[reducible] def k0_t6_loop : Scf.Loop 32 :=
  let c0_i32_302 : BitVec 32 := 0#32
  let c10_i32_303 : BitVec 32 := 10#32
  let v652 : BitVec 32 := Scalar.addi c0_i32_302 c10_i32_303
  let c1_i32_304 : BitVec 32 := 1#32
  ⟨c0_i32_302, v652, c1_i32_304⟩
@[reducible] def k0_t7_loop (i : grid0.Coords) : Scf.Loop 32 :=
  let c0_i32_314 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v684 : BitVec 32 := Scalar.subi v18 c0_i32_314
  let c1_i32_315 : BitVec 32 := 1#32
  let v686 : BitVec 32 := Scalar.divsi v684 c1_i32_315
  let v687 : BitVec 32 := Scalar.muli v686 c1_i32_315
  let v688 : BitVec 32 := Scalar.addi c0_i32_314 v687
  let c1_i32_316 : BitVec 32 := 1#32
  ⟨c0_i32_314, v688, c1_i32_316⟩
def k0_mult38 (i : grid0.Coords) (k0_t7 : Fin (k0_t7_loop i).trips) : BitVec 32 :=
  let c0_i32_314 : BitVec 32 := 0#32
  let c1_i32_316 : BitVec 32 := 1#32
  let arg25 : BitVec 32 := Scf.iv c0_i32_314 c1_i32_316 k0_t7
  let c2_i32_319 : BitVec 32 := 2#32
  let v698 : BitVec 32 := Scalar.muli arg25 c2_i32_319
  let c256_i32_320 : BitVec 32 := 256#32
  let v699 : BitVec 32 := Scalar.muli v698 c256_i32_320
  v699
def k0_off9 (i : grid0.Coords) (k0_t7 : Fin (k0_t7_loop i).trips) : Fin 2 → Nat :=
  let c0_i32_314 : BitVec 32 := 0#32
  let c1_i32_316 : BitVec 32 := 1#32
  let arg25 : BitVec 32 := Scf.iv c0_i32_314 c1_i32_316 k0_t7
  let c2_i32_319 : BitVec 32 := 2#32
  let v698 : BitVec 32 := Scalar.muli arg25 c2_i32_319
  let c256_i32_320 : BitVec 32 := 256#32
  let v699 : BitVec 32 := Scalar.muli v698 c256_i32_320
  let v700 : BitVec 32 := v699
  let v701 : Index := Scalar.indexCast v700
  let c0_321 : Index := 0#32
  ![v701.toNat, 0]
@[reducible] def k0_t8_loop (i : grid0.Coords) : Scf.Loop 32 :=
  let c0_i32_314 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v684 : BitVec 32 := Scalar.subi v18 c0_i32_314
  let c1_i32_315 : BitVec 32 := 1#32
  let v686 : BitVec 32 := Scalar.divsi v684 c1_i32_315
  let v687 : BitVec 32 := Scalar.muli v686 c1_i32_315
  let v688 : BitVec 32 := Scalar.addi c0_i32_314 v687
  let v685 : BitVec 32 := Scalar.addi c0_i32_314 v684
  let c1_i32_317 : BitVec 32 := 1#32
  ⟨v688, v685, c1_i32_317⟩
def k0_mult39 (i : grid0.Coords) (k0_t8 : Fin (k0_t8_loop i).trips) : BitVec 32 :=
  let c0_i32_314 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v684 : BitVec 32 := Scalar.subi v18 c0_i32_314
  let c1_i32_315 : BitVec 32 := 1#32
  let v686 : BitVec 32 := Scalar.divsi v684 c1_i32_315
  let v687 : BitVec 32 := Scalar.muli v686 c1_i32_315
  let v688 : BitVec 32 := Scalar.addi c0_i32_314 v687
  let c1_i32_317 : BitVec 32 := 1#32
  let arg25 : BitVec 32 := Scf.iv v688 c1_i32_317 k0_t8
  let c2_i32_319 : BitVec 32 := 2#32
  let v698 : BitVec 32 := Scalar.muli arg25 c2_i32_319
  let c256_i32_320 : BitVec 32 := 256#32
  let v699 : BitVec 32 := Scalar.muli v698 c256_i32_320
  v699
def k0_off10 (i : grid0.Coords) (k0_t8 : Fin (k0_t8_loop i).trips) : Fin 2 → Nat :=
  let c0_i32_314 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v684 : BitVec 32 := Scalar.subi v18 c0_i32_314
  let c1_i32_315 : BitVec 32 := 1#32
  let v686 : BitVec 32 := Scalar.divsi v684 c1_i32_315
  let v687 : BitVec 32 := Scalar.muli v686 c1_i32_315
  let v688 : BitVec 32 := Scalar.addi c0_i32_314 v687
  let c1_i32_317 : BitVec 32 := 1#32
  let arg25 : BitVec 32 := Scf.iv v688 c1_i32_317 k0_t8
  let c2_i32_319 : BitVec 32 := 2#32
  let v698 : BitVec 32 := Scalar.muli arg25 c2_i32_319
  let c256_i32_320 : BitVec 32 := 256#32
  let v699 : BitVec 32 := Scalar.muli v698 c256_i32_320
  let v700 : BitVec 32 := v699
  let v701 : Index := Scalar.indexCast v700
  let c0_321 : Index := 0#32
  ![v701.toNat, 0]
@[reducible] def k0_t9_loop (i : grid0.Coords) : Scf.Loop 32 :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let c1_i32_314 : BitVec 32 := 1#32
  ⟨c0_i32_312, v682, c1_i32_314⟩
def k0_mult40 (i : grid0.Coords) (k0_t9 : Fin (k0_t9_loop i).trips) : BitVec 32 :=
  let c0_i32_312 : BitVec 32 := 0#32
  let c1_i32_314 : BitVec 32 := 1#32
  let arg21 : BitVec 32 := Scf.iv c0_i32_312 c1_i32_314 k0_t9
  let c256_i32_316 : BitVec 32 := 256#32
  let v683 : BitVec 32 := Scalar.muli arg21 c256_i32_316
  v683
def k0_off11 (i : grid0.Coords) (k0_t9 : Fin (k0_t9_loop i).trips) : Fin 2 → Nat :=
  let c0_i32_312 : BitVec 32 := 0#32
  let c1_i32_314 : BitVec 32 := 1#32
  let arg21 : BitVec 32 := Scf.iv c0_i32_312 c1_i32_314 k0_t9
  let c256_i32_316 : BitVec 32 := 256#32
  let v683 : BitVec 32 := Scalar.muli arg21 c256_i32_316
  let v684 : BitVec 32 := v683
  let v685 : Index := Scalar.indexCast v684
  let c0_317 : Index := 0#32
  ![v685.toNat, 0]
def k0_mult41 (i : grid0.Coords) (k0_t9 : Fin (k0_t9_loop i).trips) : BitVec 32 :=
  let c0_i32_312 : BitVec 32 := 0#32
  let c1_i32_314 : BitVec 32 := 1#32
  let arg21 : BitVec 32 := Scf.iv c0_i32_312 c1_i32_314 k0_t9
  let c256_i32_320 : BitVec 32 := 256#32
  let v692 : BitVec 32 := Scalar.muli arg21 c256_i32_320
  v692
@[reducible] def k0_t10_loop (i : grid0.Coords) : Scf.Loop 32 :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let v679 : BitVec 32 := Scalar.addi c0_i32_312 v678
  let c1_i32_315 : BitVec 32 := 1#32
  ⟨v682, v679, c1_i32_315⟩
def k0_mult42 (i : grid0.Coords) (k0_t10 : Fin (k0_t10_loop i).trips) : BitVec 32 :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let c1_i32_315 : BitVec 32 := 1#32
  let arg21 : BitVec 32 := Scf.iv v682 c1_i32_315 k0_t10
  let c256_i32_316 : BitVec 32 := 256#32
  let v683 : BitVec 32 := Scalar.muli arg21 c256_i32_316
  v683
def k0_off12 (i : grid0.Coords) (k0_t10 : Fin (k0_t10_loop i).trips) : Fin 2 → Nat :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let c1_i32_315 : BitVec 32 := 1#32
  let arg21 : BitVec 32 := Scf.iv v682 c1_i32_315 k0_t10
  let c256_i32_316 : BitVec 32 := 256#32
  let v683 : BitVec 32 := Scalar.muli arg21 c256_i32_316
  let v684 : BitVec 32 := v683
  let v685 : Index := Scalar.indexCast v684
  let c0_317 : Index := 0#32
  ![v685.toNat, 0]
def k0_mult43 (i : grid0.Coords) (k0_t10 : Fin (k0_t10_loop i).trips) : BitVec 32 :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let c1_i32_315 : BitVec 32 := 1#32
  let arg21 : BitVec 32 := Scf.iv v682 c1_i32_315 k0_t10
  let c256_i32_320 : BitVec 32 := 256#32
  let v692 : BitVec 32 := Scalar.muli arg21 c256_i32_320
  v692
@[reducible] def k0_t11_loop (i : grid0.Coords) : Scf.Loop 32 :=
  let c0_i32_311 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v679 : BitVec 32 := Scalar.subi v18 c0_i32_311
  let c1_i32_312 : BitVec 32 := 1#32
  let v681 : BitVec 32 := Scalar.divsi v679 c1_i32_312
  let v682 : BitVec 32 := Scalar.muli v681 c1_i32_312
  let v683 : BitVec 32 := Scalar.addi c0_i32_311 v682
  let c1_i32_313 : BitVec 32 := 1#32
  ⟨c0_i32_311, v683, c1_i32_313⟩
def k0_mult44 (i : grid0.Coords) (k0_t11 : Fin (k0_t11_loop i).trips) : BitVec 32 :=
  let c0_i32_311 : BitVec 32 := 0#32
  let c1_i32_313 : BitVec 32 := 1#32
  let arg21 : BitVec 32 := Scf.iv c0_i32_311 c1_i32_313 k0_t11
  let c2_i32_325 : BitVec 32 := 2#32
  let v705 : BitVec 32 := Scalar.muli arg21 c2_i32_325
  let c256_i32_326 : BitVec 32 := 256#32
  let v706 : BitVec 32 := Scalar.muli v705 c256_i32_326
  v706
def k0_off13 (i : grid0.Coords) (k0_t11 : Fin (k0_t11_loop i).trips) : Fin 2 → Nat :=
  let c0_i32_311 : BitVec 32 := 0#32
  let c1_i32_313 : BitVec 32 := 1#32
  let arg21 : BitVec 32 := Scf.iv c0_i32_311 c1_i32_313 k0_t11
  let c2_i32_325 : BitVec 32 := 2#32
  let v705 : BitVec 32 := Scalar.muli arg21 c2_i32_325
  let c256_i32_326 : BitVec 32 := 256#32
  let v706 : BitVec 32 := Scalar.muli v705 c256_i32_326
  let v707 : BitVec 32 := v706
  let v708 : Index := Scalar.indexCast v707
  let c0_327 : Index := 0#32
  ![v708.toNat, 0]
@[reducible] def k0_t12_loop (i : grid0.Coords) : Scf.Loop 32 :=
  let c0_i32_311 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v679 : BitVec 32 := Scalar.subi v18 c0_i32_311
  let c1_i32_312 : BitVec 32 := 1#32
  let v681 : BitVec 32 := Scalar.divsi v679 c1_i32_312
  let v682 : BitVec 32 := Scalar.muli v681 c1_i32_312
  let v683 : BitVec 32 := Scalar.addi c0_i32_311 v682
  let v680 : BitVec 32 := Scalar.addi c0_i32_311 v679
  let c1_i32_314 : BitVec 32 := 1#32
  ⟨v683, v680, c1_i32_314⟩
def k0_mult45 (i : grid0.Coords) (k0_t12 : Fin (k0_t12_loop i).trips) : BitVec 32 :=
  let c0_i32_311 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v679 : BitVec 32 := Scalar.subi v18 c0_i32_311
  let c1_i32_312 : BitVec 32 := 1#32
  let v681 : BitVec 32 := Scalar.divsi v679 c1_i32_312
  let v682 : BitVec 32 := Scalar.muli v681 c1_i32_312
  let v683 : BitVec 32 := Scalar.addi c0_i32_311 v682
  let c1_i32_314 : BitVec 32 := 1#32
  let arg21 : BitVec 32 := Scf.iv v683 c1_i32_314 k0_t12
  let c2_i32_325 : BitVec 32 := 2#32
  let v705 : BitVec 32 := Scalar.muli arg21 c2_i32_325
  let c256_i32_326 : BitVec 32 := 256#32
  let v706 : BitVec 32 := Scalar.muli v705 c256_i32_326
  v706
def k0_off14 (i : grid0.Coords) (k0_t12 : Fin (k0_t12_loop i).trips) : Fin 2 → Nat :=
  let c0_i32_311 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v679 : BitVec 32 := Scalar.subi v18 c0_i32_311
  let c1_i32_312 : BitVec 32 := 1#32
  let v681 : BitVec 32 := Scalar.divsi v679 c1_i32_312
  let v682 : BitVec 32 := Scalar.muli v681 c1_i32_312
  let v683 : BitVec 32 := Scalar.addi c0_i32_311 v682
  let c1_i32_314 : BitVec 32 := 1#32
  let arg21 : BitVec 32 := Scf.iv v683 c1_i32_314 k0_t12
  let c2_i32_325 : BitVec 32 := 2#32
  let v705 : BitVec 32 := Scalar.muli arg21 c2_i32_325
  let c256_i32_326 : BitVec 32 := 256#32
  let v706 : BitVec 32 := Scalar.muli v705 c256_i32_326
  let v707 : BitVec 32 := v706
  let v708 : Index := Scalar.indexCast v707
  let c0_327 : Index := 0#32
  ![v708.toNat, 0]
@[reducible] def k0_t13_loop : Scf.Loop 32 :=
  let c0_i32_318 : BitVec 32 := 0#32
  let c2048_i32 : BitVec 32 := 2048#32
  let v689 : BitVec 32 := Scalar.addi c0_i32_318 c2048_i32
  let c1_i32_319 : BitVec 32 := 1#32
  ⟨c0_i32_318, v689, c1_i32_319⟩
@[reducible] def k0_t14_loop (i : grid0.Coords) : Scf.Loop 32 :=
  let c0_i32_328 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v711 : BitVec 32 := Scalar.subi v18 c0_i32_328
  let c1_i32_329 : BitVec 32 := 1#32
  let v713 : BitVec 32 := Scalar.divsi v711 c1_i32_329
  let v714 : BitVec 32 := Scalar.muli v713 c1_i32_329
  let v715 : BitVec 32 := Scalar.addi c0_i32_328 v714
  let c1_i32_330 : BitVec 32 := 1#32
  ⟨c0_i32_328, v715, c1_i32_330⟩
def k0_mult46 (i : grid0.Coords) (k0_t14 : Fin (k0_t14_loop i).trips) : BitVec 32 :=
  let c0_i32_328 : BitVec 32 := 0#32
  let c1_i32_330 : BitVec 32 := 1#32
  let arg25 : BitVec 32 := Scf.iv c0_i32_328 c1_i32_330 k0_t14
  let c2_i32_337 : BitVec 32 := 2#32
  let v732 : BitVec 32 := Scalar.muli arg25 c2_i32_337
  let c256_i32_338 : BitVec 32 := 256#32
  let v733 : BitVec 32 := Scalar.muli v732 c256_i32_338
  v733
def k0_off15 (i : grid0.Coords) (k0_t14 : Fin (k0_t14_loop i).trips) : Fin 2 → Nat :=
  let c0_i32_328 : BitVec 32 := 0#32
  let c1_i32_330 : BitVec 32 := 1#32
  let arg25 : BitVec 32 := Scf.iv c0_i32_328 c1_i32_330 k0_t14
  let c2_i32_337 : BitVec 32 := 2#32
  let v732 : BitVec 32 := Scalar.muli arg25 c2_i32_337
  let c256_i32_338 : BitVec 32 := 256#32
  let v733 : BitVec 32 := Scalar.muli v732 c256_i32_338
  let v734 : BitVec 32 := v733
  let v735 : Index := Scalar.indexCast v734
  let c0_339 : Index := 0#32
  ![v735.toNat, 0]
@[reducible] def k0_t15_loop (i : grid0.Coords) : Scf.Loop 32 :=
  let c0_i32_328 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v711 : BitVec 32 := Scalar.subi v18 c0_i32_328
  let c1_i32_329 : BitVec 32 := 1#32
  let v713 : BitVec 32 := Scalar.divsi v711 c1_i32_329
  let v714 : BitVec 32 := Scalar.muli v713 c1_i32_329
  let v715 : BitVec 32 := Scalar.addi c0_i32_328 v714
  let v712 : BitVec 32 := Scalar.addi c0_i32_328 v711
  let c1_i32_331 : BitVec 32 := 1#32
  ⟨v715, v712, c1_i32_331⟩
def k0_mult47 (i : grid0.Coords) (k0_t15 : Fin (k0_t15_loop i).trips) : BitVec 32 :=
  let c0_i32_328 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v711 : BitVec 32 := Scalar.subi v18 c0_i32_328
  let c1_i32_329 : BitVec 32 := 1#32
  let v713 : BitVec 32 := Scalar.divsi v711 c1_i32_329
  let v714 : BitVec 32 := Scalar.muli v713 c1_i32_329
  let v715 : BitVec 32 := Scalar.addi c0_i32_328 v714
  let c1_i32_331 : BitVec 32 := 1#32
  let arg25 : BitVec 32 := Scf.iv v715 c1_i32_331 k0_t15
  let c2_i32_337 : BitVec 32 := 2#32
  let v732 : BitVec 32 := Scalar.muli arg25 c2_i32_337
  let c256_i32_338 : BitVec 32 := 256#32
  let v733 : BitVec 32 := Scalar.muli v732 c256_i32_338
  v733
def k0_off16 (i : grid0.Coords) (k0_t15 : Fin (k0_t15_loop i).trips) : Fin 2 → Nat :=
  let c0_i32_328 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v711 : BitVec 32 := Scalar.subi v18 c0_i32_328
  let c1_i32_329 : BitVec 32 := 1#32
  let v713 : BitVec 32 := Scalar.divsi v711 c1_i32_329
  let v714 : BitVec 32 := Scalar.muli v713 c1_i32_329
  let v715 : BitVec 32 := Scalar.addi c0_i32_328 v714
  let c1_i32_331 : BitVec 32 := 1#32
  let arg25 : BitVec 32 := Scf.iv v715 c1_i32_331 k0_t15
  let c2_i32_337 : BitVec 32 := 2#32
  let v732 : BitVec 32 := Scalar.muli arg25 c2_i32_337
  let c256_i32_338 : BitVec 32 := 256#32
  let v733 : BitVec 32 := Scalar.muli v732 c256_i32_338
  let v734 : BitVec 32 := v733
  let v735 : Index := Scalar.indexCast v734
  let c0_339 : Index := 0#32
  ![v735.toNat, 0]
@[reducible] def k0_t16_loop (i : grid0.Coords) : Scf.Loop 32 :=
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_323 : BitVec 32 := 1#32
  ⟨c0_i32_321, v702, c1_i32_323⟩
def k0_mult48 (i : grid0.Coords) (k0_t16 : Fin (k0_t16_loop i).trips) : BitVec 32 :=
  let c2_i32_327 : BitVec 32 := 2#32
  let c0_i32_321 : BitVec 32 := 0#32
  let c1_i32_323 : BitVec 32 := 1#32
  let arg21 : BitVec 32 := Scf.iv c0_i32_321 c1_i32_323 k0_t16
  let v707 : BitVec 32 := Scalar.muli c2_i32_327 arg21
  let c256_i32_328 : BitVec 32 := 256#32
  let v708 : BitVec 32 := Scalar.muli v707 c256_i32_328
  v708
def k0_off17 (i : grid0.Coords) (k0_t16 : Fin (k0_t16_loop i).trips) : Fin 2 → Nat :=
  let c2_i32_327 : BitVec 32 := 2#32
  let c0_i32_321 : BitVec 32 := 0#32
  let c1_i32_323 : BitVec 32 := 1#32
  let arg21 : BitVec 32 := Scf.iv c0_i32_321 c1_i32_323 k0_t16
  let v707 : BitVec 32 := Scalar.muli c2_i32_327 arg21
  let c256_i32_328 : BitVec 32 := 256#32
  let v708 : BitVec 32 := Scalar.muli v707 c256_i32_328
  let v709 : BitVec 32 := v708
  let v710 : Index := Scalar.indexCast v709
  let c0_329 : Index := 0#32
  ![v710.toNat, 0]
def k0_mult49 (i : grid0.Coords) (k0_t16 : Fin (k0_t16_loop i).trips) : BitVec 32 :=
  let c2_i32_327 : BitVec 32 := 2#32
  let c0_i32_321 : BitVec 32 := 0#32
  let c1_i32_323 : BitVec 32 := 1#32
  let arg21 : BitVec 32 := Scf.iv c0_i32_321 c1_i32_323 k0_t16
  let v707 : BitVec 32 := Scalar.muli c2_i32_327 arg21
  let c256_i32_336 : BitVec 32 := 256#32
  let v732 : BitVec 32 := Scalar.muli v707 c256_i32_336
  v732
def k0_mult50 (i : grid0.Coords) (k0_t16 : Fin (k0_t16_loop i).trips) : BitVec 32 :=
  let c2_i32_325 : BitVec 32 := 2#32
  let c0_i32_321 : BitVec 32 := 0#32
  let c1_i32_323 : BitVec 32 := 1#32
  let arg21 : BitVec 32 := Scf.iv c0_i32_321 c1_i32_323 k0_t16
  let v705 : BitVec 32 := Scalar.muli c2_i32_325 arg21
  let c1_i32_326 : BitVec 32 := 1#32
  let v706 : BitVec 32 := Scalar.addi v705 c1_i32_326
  let c256_i32_338 : BitVec 32 := 256#32
  let v740 : BitVec 32 := Scalar.muli v706 c256_i32_338
  v740
def k0_off18 (i : grid0.Coords) (k0_t16 : Fin (k0_t16_loop i).trips) : Fin 2 → Nat :=
  let c2_i32_325 : BitVec 32 := 2#32
  let c0_i32_321 : BitVec 32 := 0#32
  let c1_i32_323 : BitVec 32 := 1#32
  let arg21 : BitVec 32 := Scf.iv c0_i32_321 c1_i32_323 k0_t16
  let v705 : BitVec 32 := Scalar.muli c2_i32_325 arg21
  let c1_i32_326 : BitVec 32 := 1#32
  let v706 : BitVec 32 := Scalar.addi v705 c1_i32_326
  let c256_i32_338 : BitVec 32 := 256#32
  let v740 : BitVec 32 := Scalar.muli v706 c256_i32_338
  let v741 : BitVec 32 := v740
  let v742 : Index := Scalar.indexCast v741
  let c0_339 : Index := 0#32
  ![v742.toNat, 0]
def k0_mult51 (i : grid0.Coords) (k0_t16 : Fin (k0_t16_loop i).trips) : BitVec 32 :=
  let c2_i32_325 : BitVec 32 := 2#32
  let c0_i32_321 : BitVec 32 := 0#32
  let c1_i32_323 : BitVec 32 := 1#32
  let arg21 : BitVec 32 := Scf.iv c0_i32_321 c1_i32_323 k0_t16
  let v705 : BitVec 32 := Scalar.muli c2_i32_325 arg21
  let c1_i32_326 : BitVec 32 := 1#32
  let v706 : BitVec 32 := Scalar.addi v705 c1_i32_326
  let c256_i32_346 : BitVec 32 := 256#32
  let v764 : BitVec 32 := Scalar.muli v706 c256_i32_346
  v764
@[reducible] def k0_t17_loop (i : grid0.Coords) : Scf.Loop 32 :=
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let v699 : BitVec 32 := Scalar.addi c0_i32_321 v698
  let c1_i32_324 : BitVec 32 := 1#32
  ⟨v702, v699, c1_i32_324⟩
def k0_mult52 (i : grid0.Coords) (k0_t17 : Fin (k0_t17_loop i).trips) : BitVec 32 :=
  let c2_i32_327 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t17
  let v707 : BitVec 32 := Scalar.muli c2_i32_327 arg21
  let c256_i32_328 : BitVec 32 := 256#32
  let v708 : BitVec 32 := Scalar.muli v707 c256_i32_328
  v708
def k0_off19 (i : grid0.Coords) (k0_t17 : Fin (k0_t17_loop i).trips) : Fin 2 → Nat :=
  let c2_i32_327 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t17
  let v707 : BitVec 32 := Scalar.muli c2_i32_327 arg21
  let c256_i32_328 : BitVec 32 := 256#32
  let v708 : BitVec 32 := Scalar.muli v707 c256_i32_328
  let v709 : BitVec 32 := v708
  let v710 : Index := Scalar.indexCast v709
  let c0_329 : Index := 0#32
  ![v710.toNat, 0]
def k0_mult53 (i : grid0.Coords) (k0_t17 : Fin (k0_t17_loop i).trips) : BitVec 32 :=
  let c2_i32_327 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t17
  let v707 : BitVec 32 := Scalar.muli c2_i32_327 arg21
  let c256_i32_336 : BitVec 32 := 256#32
  let v732 : BitVec 32 := Scalar.muli v707 c256_i32_336
  v732
def k0_mult54 (i : grid0.Coords) (k0_t17 : Fin (k0_t17_loop i).trips) : BitVec 32 :=
  let c2_i32_325 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t17
  let v705 : BitVec 32 := Scalar.muli c2_i32_325 arg21
  let c1_i32_326 : BitVec 32 := 1#32
  let v706 : BitVec 32 := Scalar.addi v705 c1_i32_326
  let c256_i32_338 : BitVec 32 := 256#32
  let v740 : BitVec 32 := Scalar.muli v706 c256_i32_338
  v740
def k0_off20 (i : grid0.Coords) (k0_t17 : Fin (k0_t17_loop i).trips) : Fin 2 → Nat :=
  let c2_i32_325 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t17
  let v705 : BitVec 32 := Scalar.muli c2_i32_325 arg21
  let c1_i32_326 : BitVec 32 := 1#32
  let v706 : BitVec 32 := Scalar.addi v705 c1_i32_326
  let c256_i32_338 : BitVec 32 := 256#32
  let v740 : BitVec 32 := Scalar.muli v706 c256_i32_338
  let v741 : BitVec 32 := v740
  let v742 : Index := Scalar.indexCast v741
  let c0_339 : Index := 0#32
  ![v742.toNat, 0]
def k0_mult55 (i : grid0.Coords) (k0_t17 : Fin (k0_t17_loop i).trips) : BitVec 32 :=
  let c2_i32_325 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t17
  let v705 : BitVec 32 := Scalar.muli c2_i32_325 arg21
  let c1_i32_326 : BitVec 32 := 1#32
  let v706 : BitVec 32 := Scalar.addi v705 c1_i32_326
  let c256_i32_346 : BitVec 32 := 256#32
  let v764 : BitVec 32 := Scalar.muli v706 c256_i32_346
  v764
@[reducible] def k0_t18_loop (i : grid0.Coords) : Scf.Loop 32 :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let c1_i32_314 : BitVec 32 := 1#32
  ⟨c0_i32_312, v682, c1_i32_314⟩
def k0_mult56 (i : grid0.Coords) (k0_t18 : Fin (k0_t18_loop i).trips) : BitVec 32 :=
  let c0_i32_312 : BitVec 32 := 0#32
  let c1_i32_314 : BitVec 32 := 1#32
  let arg21 : BitVec 32 := Scf.iv c0_i32_312 c1_i32_314 k0_t18
  let c256_i32_316 : BitVec 32 := 256#32
  let v683 : BitVec 32 := Scalar.muli arg21 c256_i32_316
  v683
def k0_off21 (i : grid0.Coords) (k0_t18 : Fin (k0_t18_loop i).trips) : Fin 2 → Nat :=
  let c0_i32_312 : BitVec 32 := 0#32
  let c1_i32_314 : BitVec 32 := 1#32
  let arg21 : BitVec 32 := Scf.iv c0_i32_312 c1_i32_314 k0_t18
  let c256_i32_316 : BitVec 32 := 256#32
  let v683 : BitVec 32 := Scalar.muli arg21 c256_i32_316
  let v684 : BitVec 32 := v683
  let v685 : Index := Scalar.indexCast v684
  let c128_317 : Index := 128#32
  ![v685.toNat, 128]
def k0_mult57 (i : grid0.Coords) (k0_t18 : Fin (k0_t18_loop i).trips) : BitVec 32 :=
  let c0_i32_312 : BitVec 32 := 0#32
  let c1_i32_314 : BitVec 32 := 1#32
  let arg21 : BitVec 32 := Scf.iv c0_i32_312 c1_i32_314 k0_t18
  let c256_i32_320 : BitVec 32 := 256#32
  let v692 : BitVec 32 := Scalar.muli arg21 c256_i32_320
  v692
@[reducible] def k0_t19_loop (i : grid0.Coords) : Scf.Loop 32 :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let v679 : BitVec 32 := Scalar.addi c0_i32_312 v678
  let c1_i32_315 : BitVec 32 := 1#32
  ⟨v682, v679, c1_i32_315⟩
def k0_mult58 (i : grid0.Coords) (k0_t19 : Fin (k0_t19_loop i).trips) : BitVec 32 :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let c1_i32_315 : BitVec 32 := 1#32
  let arg21 : BitVec 32 := Scf.iv v682 c1_i32_315 k0_t19
  let c256_i32_316 : BitVec 32 := 256#32
  let v683 : BitVec 32 := Scalar.muli arg21 c256_i32_316
  v683
def k0_off22 (i : grid0.Coords) (k0_t19 : Fin (k0_t19_loop i).trips) : Fin 2 → Nat :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let c1_i32_315 : BitVec 32 := 1#32
  let arg21 : BitVec 32 := Scf.iv v682 c1_i32_315 k0_t19
  let c256_i32_316 : BitVec 32 := 256#32
  let v683 : BitVec 32 := Scalar.muli arg21 c256_i32_316
  let v684 : BitVec 32 := v683
  let v685 : Index := Scalar.indexCast v684
  let c128_317 : Index := 128#32
  ![v685.toNat, 128]
def k0_mult59 (i : grid0.Coords) (k0_t19 : Fin (k0_t19_loop i).trips) : BitVec 32 :=
  let c0_i32_312 : BitVec 32 := 0#32
  let arg1 : BitVec 32 := BitVec.ofNat 32 (i 1).val
  let c1_i32 : BitVec 32 := 1#32
  let v0 : BitVec 32 := Scalar.addi arg1 c1_i32
  let v678 : BitVec 32 := Scalar.subi v0 c0_i32_312
  let c1_i32_313 : BitVec 32 := 1#32
  let v680 : BitVec 32 := Scalar.divsi v678 c1_i32_313
  let v681 : BitVec 32 := Scalar.muli v680 c1_i32_313
  let v682 : BitVec 32 := Scalar.addi c0_i32_312 v681
  let c1_i32_315 : BitVec 32 := 1#32
  let arg21 : BitVec 32 := Scf.iv v682 c1_i32_315 k0_t19
  let c256_i32_320 : BitVec 32 := 256#32
  let v692 : BitVec 32 := Scalar.muli arg21 c256_i32_320
  v692
@[reducible] def k0_t20_loop (i : grid0.Coords) : Scf.Loop 32 :=
  let c0_i32_311 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v679 : BitVec 32 := Scalar.subi v18 c0_i32_311
  let c1_i32_312 : BitVec 32 := 1#32
  let v681 : BitVec 32 := Scalar.divsi v679 c1_i32_312
  let v682 : BitVec 32 := Scalar.muli v681 c1_i32_312
  let v683 : BitVec 32 := Scalar.addi c0_i32_311 v682
  let c1_i32_313 : BitVec 32 := 1#32
  ⟨c0_i32_311, v683, c1_i32_313⟩
def k0_mult60 (i : grid0.Coords) (k0_t20 : Fin (k0_t20_loop i).trips) : BitVec 32 :=
  let c0_i32_311 : BitVec 32 := 0#32
  let c1_i32_313 : BitVec 32 := 1#32
  let arg21 : BitVec 32 := Scf.iv c0_i32_311 c1_i32_313 k0_t20
  let c2_i32_325 : BitVec 32 := 2#32
  let v705 : BitVec 32 := Scalar.muli arg21 c2_i32_325
  let c256_i32_326 : BitVec 32 := 256#32
  let v706 : BitVec 32 := Scalar.muli v705 c256_i32_326
  v706
def k0_off23 (i : grid0.Coords) (k0_t20 : Fin (k0_t20_loop i).trips) : Fin 2 → Nat :=
  let c0_i32_311 : BitVec 32 := 0#32
  let c1_i32_313 : BitVec 32 := 1#32
  let arg21 : BitVec 32 := Scf.iv c0_i32_311 c1_i32_313 k0_t20
  let c2_i32_325 : BitVec 32 := 2#32
  let v705 : BitVec 32 := Scalar.muli arg21 c2_i32_325
  let c256_i32_326 : BitVec 32 := 256#32
  let v706 : BitVec 32 := Scalar.muli v705 c256_i32_326
  let v707 : BitVec 32 := v706
  let v708 : Index := Scalar.indexCast v707
  let c128_327 : Index := 128#32
  ![v708.toNat, 128]
@[reducible] def k0_t21_loop (i : grid0.Coords) : Scf.Loop 32 :=
  let c0_i32_311 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v679 : BitVec 32 := Scalar.subi v18 c0_i32_311
  let c1_i32_312 : BitVec 32 := 1#32
  let v681 : BitVec 32 := Scalar.divsi v679 c1_i32_312
  let v682 : BitVec 32 := Scalar.muli v681 c1_i32_312
  let v683 : BitVec 32 := Scalar.addi c0_i32_311 v682
  let v680 : BitVec 32 := Scalar.addi c0_i32_311 v679
  let c1_i32_314 : BitVec 32 := 1#32
  ⟨v683, v680, c1_i32_314⟩
def k0_mult61 (i : grid0.Coords) (k0_t21 : Fin (k0_t21_loop i).trips) : BitVec 32 :=
  let c0_i32_311 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v679 : BitVec 32 := Scalar.subi v18 c0_i32_311
  let c1_i32_312 : BitVec 32 := 1#32
  let v681 : BitVec 32 := Scalar.divsi v679 c1_i32_312
  let v682 : BitVec 32 := Scalar.muli v681 c1_i32_312
  let v683 : BitVec 32 := Scalar.addi c0_i32_311 v682
  let c1_i32_314 : BitVec 32 := 1#32
  let arg21 : BitVec 32 := Scf.iv v683 c1_i32_314 k0_t21
  let c2_i32_325 : BitVec 32 := 2#32
  let v705 : BitVec 32 := Scalar.muli arg21 c2_i32_325
  let c256_i32_326 : BitVec 32 := 256#32
  let v706 : BitVec 32 := Scalar.muli v705 c256_i32_326
  v706
def k0_off24 (i : grid0.Coords) (k0_t21 : Fin (k0_t21_loop i).trips) : Fin 2 → Nat :=
  let c0_i32_311 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v679 : BitVec 32 := Scalar.subi v18 c0_i32_311
  let c1_i32_312 : BitVec 32 := 1#32
  let v681 : BitVec 32 := Scalar.divsi v679 c1_i32_312
  let v682 : BitVec 32 := Scalar.muli v681 c1_i32_312
  let v683 : BitVec 32 := Scalar.addi c0_i32_311 v682
  let c1_i32_314 : BitVec 32 := 1#32
  let arg21 : BitVec 32 := Scf.iv v683 c1_i32_314 k0_t21
  let c2_i32_325 : BitVec 32 := 2#32
  let v705 : BitVec 32 := Scalar.muli arg21 c2_i32_325
  let c256_i32_326 : BitVec 32 := 256#32
  let v706 : BitVec 32 := Scalar.muli v705 c256_i32_326
  let v707 : BitVec 32 := v706
  let v708 : Index := Scalar.indexCast v707
  let c128_327 : Index := 128#32
  ![v708.toNat, 128]
@[reducible] def k0_t22_loop : Scf.Loop 32 :=
  let c0_i32_318 : BitVec 32 := 0#32
  let c2048_i32 : BitVec 32 := 2048#32
  let v689 : BitVec 32 := Scalar.addi c0_i32_318 c2048_i32
  let c1_i32_319 : BitVec 32 := 1#32
  ⟨c0_i32_318, v689, c1_i32_319⟩
@[reducible] def k0_t23_loop (i : grid0.Coords) : Scf.Loop 32 :=
  let c0_i32_328 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v711 : BitVec 32 := Scalar.subi v18 c0_i32_328
  let c1_i32_329 : BitVec 32 := 1#32
  let v713 : BitVec 32 := Scalar.divsi v711 c1_i32_329
  let v714 : BitVec 32 := Scalar.muli v713 c1_i32_329
  let v715 : BitVec 32 := Scalar.addi c0_i32_328 v714
  let c1_i32_330 : BitVec 32 := 1#32
  ⟨c0_i32_328, v715, c1_i32_330⟩
def k0_mult62 (i : grid0.Coords) (k0_t23 : Fin (k0_t23_loop i).trips) : BitVec 32 :=
  let c0_i32_328 : BitVec 32 := 0#32
  let c1_i32_330 : BitVec 32 := 1#32
  let arg25 : BitVec 32 := Scf.iv c0_i32_328 c1_i32_330 k0_t23
  let c2_i32_337 : BitVec 32 := 2#32
  let v732 : BitVec 32 := Scalar.muli arg25 c2_i32_337
  let c256_i32_338 : BitVec 32 := 256#32
  let v733 : BitVec 32 := Scalar.muli v732 c256_i32_338
  v733
def k0_off25 (i : grid0.Coords) (k0_t23 : Fin (k0_t23_loop i).trips) : Fin 2 → Nat :=
  let c0_i32_328 : BitVec 32 := 0#32
  let c1_i32_330 : BitVec 32 := 1#32
  let arg25 : BitVec 32 := Scf.iv c0_i32_328 c1_i32_330 k0_t23
  let c2_i32_337 : BitVec 32 := 2#32
  let v732 : BitVec 32 := Scalar.muli arg25 c2_i32_337
  let c256_i32_338 : BitVec 32 := 256#32
  let v733 : BitVec 32 := Scalar.muli v732 c256_i32_338
  let v734 : BitVec 32 := v733
  let v735 : Index := Scalar.indexCast v734
  let c128_339 : Index := 128#32
  ![v735.toNat, 128]
@[reducible] def k0_t24_loop (i : grid0.Coords) : Scf.Loop 32 :=
  let c0_i32_328 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v711 : BitVec 32 := Scalar.subi v18 c0_i32_328
  let c1_i32_329 : BitVec 32 := 1#32
  let v713 : BitVec 32 := Scalar.divsi v711 c1_i32_329
  let v714 : BitVec 32 := Scalar.muli v713 c1_i32_329
  let v715 : BitVec 32 := Scalar.addi c0_i32_328 v714
  let v712 : BitVec 32 := Scalar.addi c0_i32_328 v711
  let c1_i32_331 : BitVec 32 := 1#32
  ⟨v715, v712, c1_i32_331⟩
def k0_mult63 (i : grid0.Coords) (k0_t24 : Fin (k0_t24_loop i).trips) : BitVec 32 :=
  let c0_i32_328 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v711 : BitVec 32 := Scalar.subi v18 c0_i32_328
  let c1_i32_329 : BitVec 32 := 1#32
  let v713 : BitVec 32 := Scalar.divsi v711 c1_i32_329
  let v714 : BitVec 32 := Scalar.muli v713 c1_i32_329
  let v715 : BitVec 32 := Scalar.addi c0_i32_328 v714
  let c1_i32_331 : BitVec 32 := 1#32
  let arg25 : BitVec 32 := Scf.iv v715 c1_i32_331 k0_t24
  let c2_i32_337 : BitVec 32 := 2#32
  let v732 : BitVec 32 := Scalar.muli arg25 c2_i32_337
  let c256_i32_338 : BitVec 32 := 256#32
  let v733 : BitVec 32 := Scalar.muli v732 c256_i32_338
  v733
def k0_off26 (i : grid0.Coords) (k0_t24 : Fin (k0_t24_loop i).trips) : Fin 2 → Nat :=
  let c0_i32_328 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v711 : BitVec 32 := Scalar.subi v18 c0_i32_328
  let c1_i32_329 : BitVec 32 := 1#32
  let v713 : BitVec 32 := Scalar.divsi v711 c1_i32_329
  let v714 : BitVec 32 := Scalar.muli v713 c1_i32_329
  let v715 : BitVec 32 := Scalar.addi c0_i32_328 v714
  let c1_i32_331 : BitVec 32 := 1#32
  let arg25 : BitVec 32 := Scf.iv v715 c1_i32_331 k0_t24
  let c2_i32_337 : BitVec 32 := 2#32
  let v732 : BitVec 32 := Scalar.muli arg25 c2_i32_337
  let c256_i32_338 : BitVec 32 := 256#32
  let v733 : BitVec 32 := Scalar.muli v732 c256_i32_338
  let v734 : BitVec 32 := v733
  let v735 : Index := Scalar.indexCast v734
  let c128_339 : Index := 128#32
  ![v735.toNat, 128]
@[reducible] def k0_t25_loop (i : grid0.Coords) : Scf.Loop 32 :=
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_323 : BitVec 32 := 1#32
  ⟨c0_i32_321, v702, c1_i32_323⟩
def k0_mult64 (i : grid0.Coords) (k0_t25 : Fin (k0_t25_loop i).trips) : BitVec 32 :=
  let c2_i32_327 : BitVec 32 := 2#32
  let c0_i32_321 : BitVec 32 := 0#32
  let c1_i32_323 : BitVec 32 := 1#32
  let arg21 : BitVec 32 := Scf.iv c0_i32_321 c1_i32_323 k0_t25
  let v707 : BitVec 32 := Scalar.muli c2_i32_327 arg21
  let c256_i32_328 : BitVec 32 := 256#32
  let v708 : BitVec 32 := Scalar.muli v707 c256_i32_328
  v708
def k0_off27 (i : grid0.Coords) (k0_t25 : Fin (k0_t25_loop i).trips) : Fin 2 → Nat :=
  let c2_i32_327 : BitVec 32 := 2#32
  let c0_i32_321 : BitVec 32 := 0#32
  let c1_i32_323 : BitVec 32 := 1#32
  let arg21 : BitVec 32 := Scf.iv c0_i32_321 c1_i32_323 k0_t25
  let v707 : BitVec 32 := Scalar.muli c2_i32_327 arg21
  let c256_i32_328 : BitVec 32 := 256#32
  let v708 : BitVec 32 := Scalar.muli v707 c256_i32_328
  let v709 : BitVec 32 := v708
  let v710 : Index := Scalar.indexCast v709
  let c128_329 : Index := 128#32
  ![v710.toNat, 128]
def k0_mult65 (i : grid0.Coords) (k0_t25 : Fin (k0_t25_loop i).trips) : BitVec 32 :=
  let c2_i32_327 : BitVec 32 := 2#32
  let c0_i32_321 : BitVec 32 := 0#32
  let c1_i32_323 : BitVec 32 := 1#32
  let arg21 : BitVec 32 := Scf.iv c0_i32_321 c1_i32_323 k0_t25
  let v707 : BitVec 32 := Scalar.muli c2_i32_327 arg21
  let c256_i32_336 : BitVec 32 := 256#32
  let v732 : BitVec 32 := Scalar.muli v707 c256_i32_336
  v732
def k0_mult66 (i : grid0.Coords) (k0_t25 : Fin (k0_t25_loop i).trips) : BitVec 32 :=
  let c2_i32_325 : BitVec 32 := 2#32
  let c0_i32_321 : BitVec 32 := 0#32
  let c1_i32_323 : BitVec 32 := 1#32
  let arg21 : BitVec 32 := Scf.iv c0_i32_321 c1_i32_323 k0_t25
  let v705 : BitVec 32 := Scalar.muli c2_i32_325 arg21
  let c1_i32_326 : BitVec 32 := 1#32
  let v706 : BitVec 32 := Scalar.addi v705 c1_i32_326
  let c256_i32_338 : BitVec 32 := 256#32
  let v740 : BitVec 32 := Scalar.muli v706 c256_i32_338
  v740
def k0_off28 (i : grid0.Coords) (k0_t25 : Fin (k0_t25_loop i).trips) : Fin 2 → Nat :=
  let c2_i32_325 : BitVec 32 := 2#32
  let c0_i32_321 : BitVec 32 := 0#32
  let c1_i32_323 : BitVec 32 := 1#32
  let arg21 : BitVec 32 := Scf.iv c0_i32_321 c1_i32_323 k0_t25
  let v705 : BitVec 32 := Scalar.muli c2_i32_325 arg21
  let c1_i32_326 : BitVec 32 := 1#32
  let v706 : BitVec 32 := Scalar.addi v705 c1_i32_326
  let c256_i32_338 : BitVec 32 := 256#32
  let v740 : BitVec 32 := Scalar.muli v706 c256_i32_338
  let v741 : BitVec 32 := v740
  let v742 : Index := Scalar.indexCast v741
  let c128_339 : Index := 128#32
  ![v742.toNat, 128]
def k0_mult67 (i : grid0.Coords) (k0_t25 : Fin (k0_t25_loop i).trips) : BitVec 32 :=
  let c2_i32_325 : BitVec 32 := 2#32
  let c0_i32_321 : BitVec 32 := 0#32
  let c1_i32_323 : BitVec 32 := 1#32
  let arg21 : BitVec 32 := Scf.iv c0_i32_321 c1_i32_323 k0_t25
  let v705 : BitVec 32 := Scalar.muli c2_i32_325 arg21
  let c1_i32_326 : BitVec 32 := 1#32
  let v706 : BitVec 32 := Scalar.addi v705 c1_i32_326
  let c256_i32_346 : BitVec 32 := 256#32
  let v764 : BitVec 32 := Scalar.muli v706 c256_i32_346
  v764
@[reducible] def k0_t26_loop (i : grid0.Coords) : Scf.Loop 32 :=
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let v699 : BitVec 32 := Scalar.addi c0_i32_321 v698
  let c1_i32_324 : BitVec 32 := 1#32
  ⟨v702, v699, c1_i32_324⟩
def k0_mult68 (i : grid0.Coords) (k0_t26 : Fin (k0_t26_loop i).trips) : BitVec 32 :=
  let c2_i32_327 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t26
  let v707 : BitVec 32 := Scalar.muli c2_i32_327 arg21
  let c256_i32_328 : BitVec 32 := 256#32
  let v708 : BitVec 32 := Scalar.muli v707 c256_i32_328
  v708
def k0_off29 (i : grid0.Coords) (k0_t26 : Fin (k0_t26_loop i).trips) : Fin 2 → Nat :=
  let c2_i32_327 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t26
  let v707 : BitVec 32 := Scalar.muli c2_i32_327 arg21
  let c256_i32_328 : BitVec 32 := 256#32
  let v708 : BitVec 32 := Scalar.muli v707 c256_i32_328
  let v709 : BitVec 32 := v708
  let v710 : Index := Scalar.indexCast v709
  let c128_329 : Index := 128#32
  ![v710.toNat, 128]
def k0_mult69 (i : grid0.Coords) (k0_t26 : Fin (k0_t26_loop i).trips) : BitVec 32 :=
  let c2_i32_327 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t26
  let v707 : BitVec 32 := Scalar.muli c2_i32_327 arg21
  let c256_i32_336 : BitVec 32 := 256#32
  let v732 : BitVec 32 := Scalar.muli v707 c256_i32_336
  v732
def k0_mult70 (i : grid0.Coords) (k0_t26 : Fin (k0_t26_loop i).trips) : BitVec 32 :=
  let c2_i32_325 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t26
  let v705 : BitVec 32 := Scalar.muli c2_i32_325 arg21
  let c1_i32_326 : BitVec 32 := 1#32
  let v706 : BitVec 32 := Scalar.addi v705 c1_i32_326
  let c256_i32_338 : BitVec 32 := 256#32
  let v740 : BitVec 32 := Scalar.muli v706 c256_i32_338
  v740
def k0_off30 (i : grid0.Coords) (k0_t26 : Fin (k0_t26_loop i).trips) : Fin 2 → Nat :=
  let c2_i32_325 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t26
  let v705 : BitVec 32 := Scalar.muli c2_i32_325 arg21
  let c1_i32_326 : BitVec 32 := 1#32
  let v706 : BitVec 32 := Scalar.addi v705 c1_i32_326
  let c256_i32_338 : BitVec 32 := 256#32
  let v740 : BitVec 32 := Scalar.muli v706 c256_i32_338
  let v741 : BitVec 32 := v740
  let v742 : Index := Scalar.indexCast v741
  let c128_339 : Index := 128#32
  ![v742.toNat, 128]
def k0_mult71 (i : grid0.Coords) (k0_t26 : Fin (k0_t26_loop i).trips) : BitVec 32 :=
  let c2_i32_325 : BitVec 32 := 2#32
  let c0_i32_321 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v698 : BitVec 32 := Scalar.subi v18 c0_i32_321
  let c1_i32_322 : BitVec 32 := 1#32
  let v700 : BitVec 32 := Scalar.divsi v698 c1_i32_322
  let v701 : BitVec 32 := Scalar.muli v700 c1_i32_322
  let v702 : BitVec 32 := Scalar.addi c0_i32_321 v701
  let c1_i32_324 : BitVec 32 := 1#32
  let arg21 : BitVec 32 := Scf.iv v702 c1_i32_324 k0_t26
  let v705 : BitVec 32 := Scalar.muli c2_i32_325 arg21
  let c1_i32_326 : BitVec 32 := 1#32
  let v706 : BitVec 32 := Scalar.addi v705 c1_i32_326
  let c256_i32_346 : BitVec 32 := 256#32
  let v764 : BitVec 32 := Scalar.muli v706 c256_i32_346
  v764
def k0_cond13 (i : grid0.Coords) : BitVec 1 :=
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c0_i32_221 : BitVec 32 := 0#32
  let v525 : BitVec 1 := Scalar.cmpi .sgt v524 c0_i32_221
  let v526 : BitVec 32 := Scalar.extui v525
  let c0_i32_222 : BitVec 32 := 0#32
  let v527 : BitVec 1 := Scalar.cmpi .ne v526 c0_i32_222
  v527

@[reducible] def k0_t27_loop (i : grid0.Coords) : Scf.Loop 32 :=
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_505 : BitVec 32 := 1#32
  ⟨c0_i32_503, v817, c1_i32_505⟩
def k0_mult72 (i : grid0.Coords) (k0_t27 : Fin (k0_t27_loop i).trips) : BitVec 32 :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let c1_i32_673 : BitVec 32 := 1#32
  let v1028 : BitVec 32 := Scalar.addi v1027 c1_i32_673
  let c256_i32_674 : BitVec 32 := 256#32
  let v1029 : BitVec 32 := Scalar.muli v1028 c256_i32_674
  v1029
def k0_off31 (i : grid0.Coords) (k0_t27 : Fin (k0_t27_loop i).trips) (c1_i32_673 : BitVec 32) : Fin 2 → Nat :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let v1028 : BitVec 32 := Scalar.addi v1027 c1_i32_673
  let c256_i32_674 : BitVec 32 := 256#32
  let v1029 : BitVec 32 := Scalar.muli v1028 c256_i32_674
  let v1030 : BitVec 32 := v1029
  let v1031 : Index := Scalar.indexCast v1030
  let c0_675 : Index := 0#32
  ![v1031.toNat, 0]
def k0_mult73 (i : grid0.Coords) (k0_t27 : Fin (k0_t27_loop i).trips) : BitVec 32 :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let c1_i32_673 : BitVec 32 := 1#32
  let v1028 : BitVec 32 := Scalar.addi v1027 c1_i32_673
  let c256_i32_676 : BitVec 32 := 256#32
  let v1033 : BitVec 32 := Scalar.muli v1028 c256_i32_676
  v1033
def k0_off32 (i : grid0.Coords) (k0_t27 : Fin (k0_t27_loop i).trips) (c1_i32_673 : BitVec 32) : Fin 2 → Nat :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let v1028 : BitVec 32 := Scalar.addi v1027 c1_i32_673
  let c256_i32_676 : BitVec 32 := 256#32
  let v1033 : BitVec 32 := Scalar.muli v1028 c256_i32_676
  let v1034 : BitVec 32 := v1033
  let v1035 : Index := Scalar.indexCast v1034
  let c0_677 : Index := 0#32
  ![v1035.toNat, 0]
def k0_mult74 (i : grid0.Coords) (k0_t27 : Fin (k0_t27_loop i).trips) : BitVec 32 :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let c1_i32_673 : BitVec 32 := 1#32
  let v1028 : BitVec 32 := Scalar.addi v1027 c1_i32_673
  let c256_i32_703 : BitVec 32 := 256#32
  let v1062 : BitVec 32 := Scalar.muli v1028 c256_i32_703
  v1062
def k0_mult75 (i : grid0.Coords) (k0_t27 : Fin (k0_t27_loop i).trips) : BitVec 32 :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let c1_i32_673 : BitVec 32 := 1#32
  let v1028 : BitVec 32 := Scalar.addi v1027 c1_i32_673
  let c256_i32_730 : BitVec 32 := 256#32
  let v1091 : BitVec 32 := Scalar.muli v1028 c256_i32_730
  v1091
def k0_off33 (i : grid0.Coords) (k0_t27 : Fin (k0_t27_loop i).trips) (c1_i32_673 : BitVec 32) : Fin 2 → Nat :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let v1028 : BitVec 32 := Scalar.addi v1027 c1_i32_673
  let c256_i32_730 : BitVec 32 := 256#32
  let v1091 : BitVec 32 := Scalar.muli v1028 c256_i32_730
  let v1092 : BitVec 32 := v1091
  let v1093 : Index := Scalar.indexCast v1092
  let c128_731 : Index := 128#32
  ![v1093.toNat, 128]
def k0_mult76 (i : grid0.Coords) (k0_t27 : Fin (k0_t27_loop i).trips) : BitVec 32 :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let c1_i32_673 : BitVec 32 := 1#32
  let v1028 : BitVec 32 := Scalar.addi v1027 c1_i32_673
  let c256_i32_757 : BitVec 32 := 256#32
  let v1120 : BitVec 32 := Scalar.muli v1028 c256_i32_757
  v1120
def k0_mult77 (i : grid0.Coords) (k0_t27 : Fin (k0_t27_loop i).trips) : BitVec 32 :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let c1_i32_673 : BitVec 32 := 1#32
  let v1028 : BitVec 32 := Scalar.addi v1027 c1_i32_673
  let c256_i32_784 : BitVec 32 := 256#32
  let v1149 : BitVec 32 := Scalar.muli v1028 c256_i32_784
  v1149
def k0_off34 (i : grid0.Coords) (k0_t27 : Fin (k0_t27_loop i).trips) (c1_i32_673 : BitVec 32) : Fin 2 → Nat :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let v1028 : BitVec 32 := Scalar.addi v1027 c1_i32_673
  let c256_i32_784 : BitVec 32 := 256#32
  let v1149 : BitVec 32 := Scalar.muli v1028 c256_i32_784
  let v1150 : BitVec 32 := v1149
  let v1151 : Index := Scalar.indexCast v1150
  let c256_785 : Index := 256#32
  ![v1151.toNat, 256]
def k0_mult78 (i : grid0.Coords) (k0_t27 : Fin (k0_t27_loop i).trips) : BitVec 32 :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let c1_i32_673 : BitVec 32 := 1#32
  let v1028 : BitVec 32 := Scalar.addi v1027 c1_i32_673
  let c256_i32_811 : BitVec 32 := 256#32
  let v1178 : BitVec 32 := Scalar.muli v1028 c256_i32_811
  v1178
def k0_mult79 (i : grid0.Coords) (k0_t27 : Fin (k0_t27_loop i).trips) : BitVec 32 :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let c1_i32_673 : BitVec 32 := 1#32
  let v1028 : BitVec 32 := Scalar.addi v1027 c1_i32_673
  let c256_i32_838 : BitVec 32 := 256#32
  let v1207 : BitVec 32 := Scalar.muli v1028 c256_i32_838
  v1207
def k0_off35 (i : grid0.Coords) (k0_t27 : Fin (k0_t27_loop i).trips) (c1_i32_673 : BitVec 32) : Fin 2 → Nat :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let v1028 : BitVec 32 := Scalar.addi v1027 c1_i32_673
  let c256_i32_838 : BitVec 32 := 256#32
  let v1207 : BitVec 32 := Scalar.muli v1028 c256_i32_838
  let v1208 : BitVec 32 := v1207
  let v1209 : Index := Scalar.indexCast v1208
  let c384_839 : Index := 384#32
  ![v1209.toNat, 384]
def k0_mult80 (i : grid0.Coords) (k0_t27 : Fin (k0_t27_loop i).trips) : BitVec 32 :=
  let c2_i32_672 : BitVec 32 := 2#32
  let c0_i32_503 : BitVec 32 := 0#32
  let c1_i32_505 : BitVec 32 := 1#32
  let arg21 : BitVec 32 := Scf.iv c0_i32_503 c1_i32_505 k0_t27
  let v1027 : BitVec 32 := Scalar.muli c2_i32_672 arg21
  let c1_i32_673 : BitVec 32 := 1#32
  let v1028 : BitVec 32 := Scalar.addi v1027 c1_i32_673
  let c256_i32_865 : BitVec 32 := 256#32
  let v1236 : BitVec 32 := Scalar.muli v1028 c256_i32_865
  v1236
def k0_mult81 (i : grid0.Coords) (k0_t27 : Fin (k0_t27_loop i).trips) : BitVec 32 :=
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_908 : BitVec 32 := 256#32
  let v1282 : BitVec 32 := Scalar.muli v1265 c256_i32_908
  v1282
def k0_off36 (i : grid0.Coords) (k0_t27 : Fin (k0_t27_loop i).trips) : Fin 2 → Nat :=
  let c0_909 : Index := 0#32
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_908 : BitVec 32 := 256#32
  let v1282 : BitVec 32 := Scalar.muli v1265 c256_i32_908
  let v1283 : BitVec 32 := v1282
  let v1284 : Index := Scalar.indexCast v1283
  ![0, v1284.toNat]
def k0_mult82 (i : grid0.Coords) (k0_t27 : Fin (k0_t27_loop i).trips) : BitVec 32 :=
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_929 : BitVec 32 := 256#32
  let v1307 : BitVec 32 := Scalar.muli v1265 c256_i32_929
  v1307
def k0_off37 (i : grid0.Coords) (k0_t27 : Fin (k0_t27_loop i).trips) : Fin 2 → Nat :=
  let c80_930 : Index := 80#32
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_929 : BitVec 32 := 256#32
  let v1307 : BitVec 32 := Scalar.muli v1265 c256_i32_929
  let v1308 : BitVec 32 := v1307
  let v1309 : Index := Scalar.indexCast v1308
  ![80, v1309.toNat]
def k0_mult83 (i : grid0.Coords) (k0_t27 : Fin (k0_t27_loop i).trips) : BitVec 32 :=
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_950 : BitVec 32 := 256#32
  let v1332 : BitVec 32 := Scalar.muli v1265 c256_i32_950
  v1332
def k0_off38 (i : grid0.Coords) (k0_t27 : Fin (k0_t27_loop i).trips) : Fin 2 → Nat :=
  let c160_951 : Index := 160#32
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_950 : BitVec 32 := 256#32
  let v1332 : BitVec 32 := Scalar.muli v1265 c256_i32_950
  let v1333 : BitVec 32 := v1332
  let v1334 : Index := Scalar.indexCast v1333
  ![160, v1334.toNat]
def k0_mult84 (i : grid0.Coords) (k0_t27 : Fin (k0_t27_loop i).trips) : BitVec 32 :=
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_971 : BitVec 32 := 256#32
  let v1357 : BitVec 32 := Scalar.muli v1265 c256_i32_971
  v1357
def k0_off39 (i : grid0.Coords) (k0_t27 : Fin (k0_t27_loop i).trips) : Fin 2 → Nat :=
  let c240_972 : Index := 240#32
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_971 : BitVec 32 := 256#32
  let v1357 : BitVec 32 := Scalar.muli v1265 c256_i32_971
  let v1358 : BitVec 32 := v1357
  let v1359 : Index := Scalar.indexCast v1358
  ![240, v1359.toNat]
def k0_mult85 (i : grid0.Coords) (k0_t27 : Fin (k0_t27_loop i).trips) : BitVec 32 :=
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_992 : BitVec 32 := 256#32
  let v1382 : BitVec 32 := Scalar.muli v1265 c256_i32_992
  v1382
def k0_off40 (i : grid0.Coords) (k0_t27 : Fin (k0_t27_loop i).trips) : Fin 2 → Nat :=
  let c320_993 : Index := 320#32
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_992 : BitVec 32 := 256#32
  let v1382 : BitVec 32 := Scalar.muli v1265 c256_i32_992
  let v1383 : BitVec 32 := v1382
  let v1384 : Index := Scalar.indexCast v1383
  ![320, v1384.toNat]
def k0_mult86 (i : grid0.Coords) (k0_t27 : Fin (k0_t27_loop i).trips) : BitVec 32 :=
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_1013 : BitVec 32 := 256#32
  let v1407 : BitVec 32 := Scalar.muli v1265 c256_i32_1013
  v1407
def k0_off41 (i : grid0.Coords) (k0_t27 : Fin (k0_t27_loop i).trips) : Fin 2 → Nat :=
  let c400_1014 : Index := 400#32
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_1013 : BitVec 32 := 256#32
  let v1407 : BitVec 32 := Scalar.muli v1265 c256_i32_1013
  let v1408 : BitVec 32 := v1407
  let v1409 : Index := Scalar.indexCast v1408
  ![400, v1409.toNat]
def k0_mult87 (i : grid0.Coords) (k0_t27 : Fin (k0_t27_loop i).trips) : BitVec 32 :=
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_1034 : BitVec 32 := 256#32
  let v1432 : BitVec 32 := Scalar.muli v1265 c256_i32_1034
  v1432
def k0_off42 (i : grid0.Coords) (k0_t27 : Fin (k0_t27_loop i).trips) : Fin 2 → Nat :=
  let c480_1035 : Index := 480#32
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_1034 : BitVec 32 := 256#32
  let v1432 : BitVec 32 := Scalar.muli v1265 c256_i32_1034
  let v1433 : BitVec 32 := v1432
  let v1434 : Index := Scalar.indexCast v1433
  ![480, v1434.toNat]
def k0_mult88 (i : grid0.Coords) (k0_t27 : Fin (k0_t27_loop i).trips) : BitVec 32 :=
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_1055 : BitVec 32 := 256#32
  let v1457 : BitVec 32 := Scalar.muli v1265 c256_i32_1055
  v1457
def k0_off43 (i : grid0.Coords) (k0_t27 : Fin (k0_t27_loop i).trips) : Fin 2 → Nat :=
  let c560_1056 : Index := 560#32
  let c2_i32_892 : BitVec 32 := 2#32
  let c0_i32_503 : BitVec 32 := 0#32
  let c1_i32_505 : BitVec 32 := 1#32
  let arg21 : BitVec 32 := Scf.iv c0_i32_503 c1_i32_505 k0_t27
  let v1265 : BitVec 32 := Scalar.muli c2_i32_892 arg21
  let c256_i32_1055 : BitVec 32 := 256#32
  let v1457 : BitVec 32 := Scalar.muli v1265 c256_i32_1055
  let v1458 : BitVec 32 := v1457
  let v1459 : Index := Scalar.indexCast v1458
  ![560, v1459.toNat]
def k0_mult89 (i : grid0.Coords) (k0_t27 : Fin (k0_t27_loop i).trips) : BitVec 32 :=
  let c2_i32_1061 : BitVec 32 := 2#32
  let c0_i32_503 : BitVec 32 := 0#32
  let c1_i32_505 : BitVec 32 := 1#32
  let arg21 : BitVec 32 := Scf.iv c0_i32_503 c1_i32_505 k0_t27
  let v1466 : BitVec 32 := Scalar.muli c2_i32_1061 arg21
  let c2_i32_1062 : BitVec 32 := 2#32
  let v1467 : BitVec 32 := Scalar.addi v1466 c2_i32_1062
  let c256_i32_1063 : BitVec 32 := 256#32
  let v1468 : BitVec 32 := Scalar.muli v1467 c256_i32_1063
  v1468
def k0_mult90 (i : grid0.Coords) (k0_t27 : Fin (k0_t27_loop i).trips) : BitVec 32 :=
  let c2_i32_1061 : BitVec 32 := 2#32
  let c0_i32_503 : BitVec 32 := 0#32
  let c1_i32_505 : BitVec 32 := 1#32
  let arg21 : BitVec 32 := Scf.iv c0_i32_503 c1_i32_505 k0_t27
  let v1466 : BitVec 32 := Scalar.muli c2_i32_1061 arg21
  let c2_i32_1062 : BitVec 32 := 2#32
  let v1467 : BitVec 32 := Scalar.addi v1466 c2_i32_1062
  let c256_i32_1065 : BitVec 32 := 256#32
  let v1472 : BitVec 32 := Scalar.muli v1467 c256_i32_1065
  v1472
def k0_mult91 (i : grid0.Coords) (k0_t27 : Fin (k0_t27_loop i).trips) : BitVec 32 :=
  let c2_i32_1061 : BitVec 32 := 2#32
  let c0_i32_503 : BitVec 32 := 0#32
  let c1_i32_505 : BitVec 32 := 1#32
  let arg21 : BitVec 32 := Scf.iv c0_i32_503 c1_i32_505 k0_t27
  let v1466 : BitVec 32 := Scalar.muli c2_i32_1061 arg21
  let c2_i32_1062 : BitVec 32 := 2#32
  let v1467 : BitVec 32 := Scalar.addi v1466 c2_i32_1062
  let c256_i32_1092 : BitVec 32 := 256#32
  let v1501 : BitVec 32 := Scalar.muli v1467 c256_i32_1092
  v1501
def k0_mult92 (i : grid0.Coords) (k0_t27 : Fin (k0_t27_loop i).trips) : BitVec 32 :=
  let c2_i32_1061 : BitVec 32 := 2#32
  let c0_i32_503 : BitVec 32 := 0#32
  let c1_i32_505 : BitVec 32 := 1#32
  let arg21 : BitVec 32 := Scf.iv c0_i32_503 c1_i32_505 k0_t27
  let v1466 : BitVec 32 := Scalar.muli c2_i32_1061 arg21
  let c2_i32_1062 : BitVec 32 := 2#32
  let v1467 : BitVec 32 := Scalar.addi v1466 c2_i32_1062
  let c256_i32_1119 : BitVec 32 := 256#32
  let v1530 : BitVec 32 := Scalar.muli v1467 c256_i32_1119
  v1530
def k0_mult93 (i : grid0.Coords) (k0_t27 : Fin (k0_t27_loop i).trips) : BitVec 32 :=
  let c2_i32_1061 : BitVec 32 := 2#32
  let c0_i32_503 : BitVec 32 := 0#32
  let c1_i32_505 : BitVec 32 := 1#32
  let arg21 : BitVec 32 := Scf.iv c0_i32_503 c1_i32_505 k0_t27
  let v1466 : BitVec 32 := Scalar.muli c2_i32_1061 arg21
  let c2_i32_1062 : BitVec 32 := 2#32
  let v1467 : BitVec 32 := Scalar.addi v1466 c2_i32_1062
  let c256_i32_1146 : BitVec 32 := 256#32
  let v1559 : BitVec 32 := Scalar.muli v1467 c256_i32_1146
  v1559
def k0_mult94 (i : grid0.Coords) (k0_t27 : Fin (k0_t27_loop i).trips) : BitVec 32 :=
  let c2_i32_1061 : BitVec 32 := 2#32
  let c0_i32_503 : BitVec 32 := 0#32
  let c1_i32_505 : BitVec 32 := 1#32
  let arg21 : BitVec 32 := Scf.iv c0_i32_503 c1_i32_505 k0_t27
  let v1466 : BitVec 32 := Scalar.muli c2_i32_1061 arg21
  let c2_i32_1062 : BitVec 32 := 2#32
  let v1467 : BitVec 32 := Scalar.addi v1466 c2_i32_1062
  let c256_i32_1173 : BitVec 32 := 256#32
  let v1588 : BitVec 32 := Scalar.muli v1467 c256_i32_1173
  v1588
def k0_mult95 (i : grid0.Coords) (k0_t27 : Fin (k0_t27_loop i).trips) : BitVec 32 :=
  let c2_i32_1061 : BitVec 32 := 2#32
  let c0_i32_503 : BitVec 32 := 0#32
  let c1_i32_505 : BitVec 32 := 1#32
  let arg21 : BitVec 32 := Scf.iv c0_i32_503 c1_i32_505 k0_t27
  let v1466 : BitVec 32 := Scalar.muli c2_i32_1061 arg21
  let c2_i32_1062 : BitVec 32 := 2#32
  let v1467 : BitVec 32 := Scalar.addi v1466 c2_i32_1062
  let c256_i32_1200 : BitVec 32 := 256#32
  let v1617 : BitVec 32 := Scalar.muli v1467 c256_i32_1200
  v1617
def k0_mult96 (i : grid0.Coords) (k0_t27 : Fin (k0_t27_loop i).trips) : BitVec 32 :=
  let c2_i32_1061 : BitVec 32 := 2#32
  let c0_i32_503 : BitVec 32 := 0#32
  let c1_i32_505 : BitVec 32 := 1#32
  let arg21 : BitVec 32 := Scf.iv c0_i32_503 c1_i32_505 k0_t27
  let v1466 : BitVec 32 := Scalar.muli c2_i32_1061 arg21
  let c2_i32_1062 : BitVec 32 := 2#32
  let v1467 : BitVec 32 := Scalar.addi v1466 c2_i32_1062
  let c256_i32_1227 : BitVec 32 := 256#32
  let v1646 : BitVec 32 := Scalar.muli v1467 c256_i32_1227
  v1646
def k0_mult97 (i : grid0.Coords) (k0_t27 : Fin (k0_t27_loop i).trips) : BitVec 32 :=
  let c2_i32_1061 : BitVec 32 := 2#32
  let c0_i32_503 : BitVec 32 := 0#32
  let c1_i32_505 : BitVec 32 := 1#32
  let arg21 : BitVec 32 := Scf.iv c0_i32_503 c1_i32_505 k0_t27
  let v1466 : BitVec 32 := Scalar.muli c2_i32_1061 arg21
  let c2_i32_1062 : BitVec 32 := 2#32
  let v1467 : BitVec 32 := Scalar.addi v1466 c2_i32_1062
  let c256_i32_1254 : BitVec 32 := 256#32
  let v1675 : BitVec 32 := Scalar.muli v1467 c256_i32_1254
  v1675
def k0_mult98 (i : grid0.Coords) (k0_t27 : Fin (k0_t27_loop i).trips) : BitVec 32 :=
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1298 : BitVec 32 := 256#32
  let v1722 : BitVec 32 := Scalar.muli v1705 c256_i32_1298
  v1722
def k0_off44 (i : grid0.Coords) (k0_t27 : Fin (k0_t27_loop i).trips) : Fin 2 → Nat :=
  let c0_1299 : Index := 0#32
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1298 : BitVec 32 := 256#32
  let v1722 : BitVec 32 := Scalar.muli v1705 c256_i32_1298
  let v1723 : BitVec 32 := v1722
  let v1724 : Index := Scalar.indexCast v1723
  ![0, v1724.toNat]
def k0_mult99 (i : grid0.Coords) (k0_t27 : Fin (k0_t27_loop i).trips) : BitVec 32 :=
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1319 : BitVec 32 := 256#32
  let v1747 : BitVec 32 := Scalar.muli v1705 c256_i32_1319
  v1747
def k0_off45 (i : grid0.Coords) (k0_t27 : Fin (k0_t27_loop i).trips) : Fin 2 → Nat :=
  let c80_1320 : Index := 80#32
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1319 : BitVec 32 := 256#32
  let v1747 : BitVec 32 := Scalar.muli v1705 c256_i32_1319
  let v1748 : BitVec 32 := v1747
  let v1749 : Index := Scalar.indexCast v1748
  ![80, v1749.toNat]
def k0_mult100 (i : grid0.Coords) (k0_t27 : Fin (k0_t27_loop i).trips) : BitVec 32 :=
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1340 : BitVec 32 := 256#32
  let v1772 : BitVec 32 := Scalar.muli v1705 c256_i32_1340
  v1772
def k0_off46 (i : grid0.Coords) (k0_t27 : Fin (k0_t27_loop i).trips) : Fin 2 → Nat :=
  let c160_1341 : Index := 160#32
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1340 : BitVec 32 := 256#32
  let v1772 : BitVec 32 := Scalar.muli v1705 c256_i32_1340
  let v1773 : BitVec 32 := v1772
  let v1774 : Index := Scalar.indexCast v1773
  ![160, v1774.toNat]
def k0_mult101 (i : grid0.Coords) (k0_t27 : Fin (k0_t27_loop i).trips) : BitVec 32 :=
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1361 : BitVec 32 := 256#32
  let v1797 : BitVec 32 := Scalar.muli v1705 c256_i32_1361
  v1797
def k0_off47 (i : grid0.Coords) (k0_t27 : Fin (k0_t27_loop i).trips) : Fin 2 → Nat :=
  let c240_1362 : Index := 240#32
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1361 : BitVec 32 := 256#32
  let v1797 : BitVec 32 := Scalar.muli v1705 c256_i32_1361
  let v1798 : BitVec 32 := v1797
  let v1799 : Index := Scalar.indexCast v1798
  ![240, v1799.toNat]
def k0_mult102 (i : grid0.Coords) (k0_t27 : Fin (k0_t27_loop i).trips) : BitVec 32 :=
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1382 : BitVec 32 := 256#32
  let v1822 : BitVec 32 := Scalar.muli v1705 c256_i32_1382
  v1822
def k0_off48 (i : grid0.Coords) (k0_t27 : Fin (k0_t27_loop i).trips) : Fin 2 → Nat :=
  let c320_1383 : Index := 320#32
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1382 : BitVec 32 := 256#32
  let v1822 : BitVec 32 := Scalar.muli v1705 c256_i32_1382
  let v1823 : BitVec 32 := v1822
  let v1824 : Index := Scalar.indexCast v1823
  ![320, v1824.toNat]
def k0_mult103 (i : grid0.Coords) (k0_t27 : Fin (k0_t27_loop i).trips) : BitVec 32 :=
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1403 : BitVec 32 := 256#32
  let v1847 : BitVec 32 := Scalar.muli v1705 c256_i32_1403
  v1847
def k0_off49 (i : grid0.Coords) (k0_t27 : Fin (k0_t27_loop i).trips) : Fin 2 → Nat :=
  let c400_1404 : Index := 400#32
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1403 : BitVec 32 := 256#32
  let v1847 : BitVec 32 := Scalar.muli v1705 c256_i32_1403
  let v1848 : BitVec 32 := v1847
  let v1849 : Index := Scalar.indexCast v1848
  ![400, v1849.toNat]
def k0_mult104 (i : grid0.Coords) (k0_t27 : Fin (k0_t27_loop i).trips) : BitVec 32 :=
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1424 : BitVec 32 := 256#32
  let v1872 : BitVec 32 := Scalar.muli v1705 c256_i32_1424
  v1872
def k0_off50 (i : grid0.Coords) (k0_t27 : Fin (k0_t27_loop i).trips) : Fin 2 → Nat :=
  let c480_1425 : Index := 480#32
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1424 : BitVec 32 := 256#32
  let v1872 : BitVec 32 := Scalar.muli v1705 c256_i32_1424
  let v1873 : BitVec 32 := v1872
  let v1874 : Index := Scalar.indexCast v1873
  ![480, v1874.toNat]
def k0_mult105 (i : grid0.Coords) (k0_t27 : Fin (k0_t27_loop i).trips) : BitVec 32 :=
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1445 : BitVec 32 := 256#32
  let v1897 : BitVec 32 := Scalar.muli v1705 c256_i32_1445
  v1897
def k0_off51 (i : grid0.Coords) (k0_t27 : Fin (k0_t27_loop i).trips) : Fin 2 → Nat :=
  let c560_1446 : Index := 560#32
  let c2_i32_1281 : BitVec 32 := 2#32
  let c0_i32_503 : BitVec 32 := 0#32
  let c1_i32_505 : BitVec 32 := 1#32
  let arg21 : BitVec 32 := Scf.iv c0_i32_503 c1_i32_505 k0_t27
  let v1704 : BitVec 32 := Scalar.muli c2_i32_1281 arg21
  let c1_i32_1282 : BitVec 32 := 1#32
  let v1705 : BitVec 32 := Scalar.addi v1704 c1_i32_1282
  let c256_i32_1445 : BitVec 32 := 256#32
  let v1897 : BitVec 32 := Scalar.muli v1705 c256_i32_1445
  let v1898 : BitVec 32 := v1897
  let v1899 : Index := Scalar.indexCast v1898
  ![560, v1899.toNat]
@[reducible] def k0_t28_loop (i : grid0.Coords) : Scf.Loop 32 :=
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let v814 : BitVec 32 := Scalar.addi c0_i32_503 v813
  let c1_i32_506 : BitVec 32 := 1#32
  ⟨v817, v814, c1_i32_506⟩
def k0_mult106 (i : grid0.Coords) (k0_t28 : Fin (k0_t28_loop i).trips) : BitVec 32 :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let c1_i32_673 : BitVec 32 := 1#32
  let v1028 : BitVec 32 := Scalar.addi v1027 c1_i32_673
  let c256_i32_674 : BitVec 32 := 256#32
  let v1029 : BitVec 32 := Scalar.muli v1028 c256_i32_674
  v1029
def k0_off52 (i : grid0.Coords) (k0_t28 : Fin (k0_t28_loop i).trips) (c1_i32_673 : BitVec 32) : Fin 2 → Nat :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let v1028 : BitVec 32 := Scalar.addi v1027 c1_i32_673
  let c256_i32_674 : BitVec 32 := 256#32
  let v1029 : BitVec 32 := Scalar.muli v1028 c256_i32_674
  let v1030 : BitVec 32 := v1029
  let v1031 : Index := Scalar.indexCast v1030
  let c0_675 : Index := 0#32
  ![v1031.toNat, 0]
def k0_mult107 (i : grid0.Coords) (k0_t28 : Fin (k0_t28_loop i).trips) : BitVec 32 :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let c1_i32_673 : BitVec 32 := 1#32
  let v1028 : BitVec 32 := Scalar.addi v1027 c1_i32_673
  let c256_i32_676 : BitVec 32 := 256#32
  let v1033 : BitVec 32 := Scalar.muli v1028 c256_i32_676
  v1033
def k0_off53 (i : grid0.Coords) (k0_t28 : Fin (k0_t28_loop i).trips) (c1_i32_673 : BitVec 32) : Fin 2 → Nat :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let v1028 : BitVec 32 := Scalar.addi v1027 c1_i32_673
  let c256_i32_676 : BitVec 32 := 256#32
  let v1033 : BitVec 32 := Scalar.muli v1028 c256_i32_676
  let v1034 : BitVec 32 := v1033
  let v1035 : Index := Scalar.indexCast v1034
  let c0_677 : Index := 0#32
  ![v1035.toNat, 0]
def k0_mult108 (i : grid0.Coords) (k0_t28 : Fin (k0_t28_loop i).trips) : BitVec 32 :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let c1_i32_673 : BitVec 32 := 1#32
  let v1028 : BitVec 32 := Scalar.addi v1027 c1_i32_673
  let c256_i32_703 : BitVec 32 := 256#32
  let v1062 : BitVec 32 := Scalar.muli v1028 c256_i32_703
  v1062
def k0_mult109 (i : grid0.Coords) (k0_t28 : Fin (k0_t28_loop i).trips) : BitVec 32 :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let c1_i32_673 : BitVec 32 := 1#32
  let v1028 : BitVec 32 := Scalar.addi v1027 c1_i32_673
  let c256_i32_730 : BitVec 32 := 256#32
  let v1091 : BitVec 32 := Scalar.muli v1028 c256_i32_730
  v1091
def k0_off54 (i : grid0.Coords) (k0_t28 : Fin (k0_t28_loop i).trips) (c1_i32_673 : BitVec 32) : Fin 2 → Nat :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let v1028 : BitVec 32 := Scalar.addi v1027 c1_i32_673
  let c256_i32_730 : BitVec 32 := 256#32
  let v1091 : BitVec 32 := Scalar.muli v1028 c256_i32_730
  let v1092 : BitVec 32 := v1091
  let v1093 : Index := Scalar.indexCast v1092
  let c128_731 : Index := 128#32
  ![v1093.toNat, 128]
def k0_mult110 (i : grid0.Coords) (k0_t28 : Fin (k0_t28_loop i).trips) : BitVec 32 :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let c1_i32_673 : BitVec 32 := 1#32
  let v1028 : BitVec 32 := Scalar.addi v1027 c1_i32_673
  let c256_i32_757 : BitVec 32 := 256#32
  let v1120 : BitVec 32 := Scalar.muli v1028 c256_i32_757
  v1120
def k0_mult111 (i : grid0.Coords) (k0_t28 : Fin (k0_t28_loop i).trips) : BitVec 32 :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let c1_i32_673 : BitVec 32 := 1#32
  let v1028 : BitVec 32 := Scalar.addi v1027 c1_i32_673
  let c256_i32_784 : BitVec 32 := 256#32
  let v1149 : BitVec 32 := Scalar.muli v1028 c256_i32_784
  v1149
def k0_off55 (i : grid0.Coords) (k0_t28 : Fin (k0_t28_loop i).trips) (c1_i32_673 : BitVec 32) : Fin 2 → Nat :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let v1028 : BitVec 32 := Scalar.addi v1027 c1_i32_673
  let c256_i32_784 : BitVec 32 := 256#32
  let v1149 : BitVec 32 := Scalar.muli v1028 c256_i32_784
  let v1150 : BitVec 32 := v1149
  let v1151 : Index := Scalar.indexCast v1150
  let c256_785 : Index := 256#32
  ![v1151.toNat, 256]
def k0_mult112 (i : grid0.Coords) (k0_t28 : Fin (k0_t28_loop i).trips) : BitVec 32 :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let c1_i32_673 : BitVec 32 := 1#32
  let v1028 : BitVec 32 := Scalar.addi v1027 c1_i32_673
  let c256_i32_811 : BitVec 32 := 256#32
  let v1178 : BitVec 32 := Scalar.muli v1028 c256_i32_811
  v1178
def k0_mult113 (i : grid0.Coords) (k0_t28 : Fin (k0_t28_loop i).trips) : BitVec 32 :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let c1_i32_673 : BitVec 32 := 1#32
  let v1028 : BitVec 32 := Scalar.addi v1027 c1_i32_673
  let c256_i32_838 : BitVec 32 := 256#32
  let v1207 : BitVec 32 := Scalar.muli v1028 c256_i32_838
  v1207
def k0_off56 (i : grid0.Coords) (k0_t28 : Fin (k0_t28_loop i).trips) (c1_i32_673 : BitVec 32) : Fin 2 → Nat :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let v1028 : BitVec 32 := Scalar.addi v1027 c1_i32_673
  let c256_i32_838 : BitVec 32 := 256#32
  let v1207 : BitVec 32 := Scalar.muli v1028 c256_i32_838
  let v1208 : BitVec 32 := v1207
  let v1209 : Index := Scalar.indexCast v1208
  let c384_839 : Index := 384#32
  ![v1209.toNat, 384]
def k0_mult114 (i : grid0.Coords) (k0_t28 : Fin (k0_t28_loop i).trips) : BitVec 32 :=
  let c2_i32_672 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1027 : BitVec 32 := Scalar.muli c2_i32_672 arg21
  let c1_i32_673 : BitVec 32 := 1#32
  let v1028 : BitVec 32 := Scalar.addi v1027 c1_i32_673
  let c256_i32_865 : BitVec 32 := 256#32
  let v1236 : BitVec 32 := Scalar.muli v1028 c256_i32_865
  v1236
def k0_mult115 (i : grid0.Coords) (k0_t28 : Fin (k0_t28_loop i).trips) : BitVec 32 :=
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_908 : BitVec 32 := 256#32
  let v1282 : BitVec 32 := Scalar.muli v1265 c256_i32_908
  v1282
def k0_off57 (i : grid0.Coords) (k0_t28 : Fin (k0_t28_loop i).trips) : Fin 2 → Nat :=
  let c0_909 : Index := 0#32
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_908 : BitVec 32 := 256#32
  let v1282 : BitVec 32 := Scalar.muli v1265 c256_i32_908
  let v1283 : BitVec 32 := v1282
  let v1284 : Index := Scalar.indexCast v1283
  ![0, v1284.toNat]
def k0_mult116 (i : grid0.Coords) (k0_t28 : Fin (k0_t28_loop i).trips) : BitVec 32 :=
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_929 : BitVec 32 := 256#32
  let v1307 : BitVec 32 := Scalar.muli v1265 c256_i32_929
  v1307
def k0_off58 (i : grid0.Coords) (k0_t28 : Fin (k0_t28_loop i).trips) : Fin 2 → Nat :=
  let c80_930 : Index := 80#32
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_929 : BitVec 32 := 256#32
  let v1307 : BitVec 32 := Scalar.muli v1265 c256_i32_929
  let v1308 : BitVec 32 := v1307
  let v1309 : Index := Scalar.indexCast v1308
  ![80, v1309.toNat]
def k0_mult117 (i : grid0.Coords) (k0_t28 : Fin (k0_t28_loop i).trips) : BitVec 32 :=
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_950 : BitVec 32 := 256#32
  let v1332 : BitVec 32 := Scalar.muli v1265 c256_i32_950
  v1332
def k0_off59 (i : grid0.Coords) (k0_t28 : Fin (k0_t28_loop i).trips) : Fin 2 → Nat :=
  let c160_951 : Index := 160#32
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_950 : BitVec 32 := 256#32
  let v1332 : BitVec 32 := Scalar.muli v1265 c256_i32_950
  let v1333 : BitVec 32 := v1332
  let v1334 : Index := Scalar.indexCast v1333
  ![160, v1334.toNat]
def k0_mult118 (i : grid0.Coords) (k0_t28 : Fin (k0_t28_loop i).trips) : BitVec 32 :=
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_971 : BitVec 32 := 256#32
  let v1357 : BitVec 32 := Scalar.muli v1265 c256_i32_971
  v1357
def k0_off60 (i : grid0.Coords) (k0_t28 : Fin (k0_t28_loop i).trips) : Fin 2 → Nat :=
  let c240_972 : Index := 240#32
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_971 : BitVec 32 := 256#32
  let v1357 : BitVec 32 := Scalar.muli v1265 c256_i32_971
  let v1358 : BitVec 32 := v1357
  let v1359 : Index := Scalar.indexCast v1358
  ![240, v1359.toNat]
def k0_mult119 (i : grid0.Coords) (k0_t28 : Fin (k0_t28_loop i).trips) : BitVec 32 :=
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_992 : BitVec 32 := 256#32
  let v1382 : BitVec 32 := Scalar.muli v1265 c256_i32_992
  v1382
def k0_off61 (i : grid0.Coords) (k0_t28 : Fin (k0_t28_loop i).trips) : Fin 2 → Nat :=
  let c320_993 : Index := 320#32
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_992 : BitVec 32 := 256#32
  let v1382 : BitVec 32 := Scalar.muli v1265 c256_i32_992
  let v1383 : BitVec 32 := v1382
  let v1384 : Index := Scalar.indexCast v1383
  ![320, v1384.toNat]
def k0_mult120 (i : grid0.Coords) (k0_t28 : Fin (k0_t28_loop i).trips) : BitVec 32 :=
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_1013 : BitVec 32 := 256#32
  let v1407 : BitVec 32 := Scalar.muli v1265 c256_i32_1013
  v1407
def k0_off62 (i : grid0.Coords) (k0_t28 : Fin (k0_t28_loop i).trips) : Fin 2 → Nat :=
  let c400_1014 : Index := 400#32
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_1013 : BitVec 32 := 256#32
  let v1407 : BitVec 32 := Scalar.muli v1265 c256_i32_1013
  let v1408 : BitVec 32 := v1407
  let v1409 : Index := Scalar.indexCast v1408
  ![400, v1409.toNat]
def k0_mult121 (i : grid0.Coords) (k0_t28 : Fin (k0_t28_loop i).trips) : BitVec 32 :=
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_1034 : BitVec 32 := 256#32
  let v1432 : BitVec 32 := Scalar.muli v1265 c256_i32_1034
  v1432
def k0_off63 (i : grid0.Coords) (k0_t28 : Fin (k0_t28_loop i).trips) : Fin 2 → Nat :=
  let c480_1035 : Index := 480#32
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_1034 : BitVec 32 := 256#32
  let v1432 : BitVec 32 := Scalar.muli v1265 c256_i32_1034
  let v1433 : BitVec 32 := v1432
  let v1434 : Index := Scalar.indexCast v1433
  ![480, v1434.toNat]
def k0_mult122 (i : grid0.Coords) (k0_t28 : Fin (k0_t28_loop i).trips) : BitVec 32 :=
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_1055 : BitVec 32 := 256#32
  let v1457 : BitVec 32 := Scalar.muli v1265 c256_i32_1055
  v1457
def k0_off64 (i : grid0.Coords) (k0_t28 : Fin (k0_t28_loop i).trips) : Fin 2 → Nat :=
  let c560_1056 : Index := 560#32
  let c2_i32_892 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1265 : BitVec 32 := Scalar.muli c2_i32_892 arg21
  let c256_i32_1055 : BitVec 32 := 256#32
  let v1457 : BitVec 32 := Scalar.muli v1265 c256_i32_1055
  let v1458 : BitVec 32 := v1457
  let v1459 : Index := Scalar.indexCast v1458
  ![560, v1459.toNat]
def k0_mult123 (i : grid0.Coords) (k0_t28 : Fin (k0_t28_loop i).trips) : BitVec 32 :=
  let c2_i32_1061 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1466 : BitVec 32 := Scalar.muli c2_i32_1061 arg21
  let c2_i32_1062 : BitVec 32 := 2#32
  let v1467 : BitVec 32 := Scalar.addi v1466 c2_i32_1062
  let c256_i32_1063 : BitVec 32 := 256#32
  let v1468 : BitVec 32 := Scalar.muli v1467 c256_i32_1063
  v1468
def k0_mult124 (i : grid0.Coords) (k0_t28 : Fin (k0_t28_loop i).trips) : BitVec 32 :=
  let c2_i32_1061 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1466 : BitVec 32 := Scalar.muli c2_i32_1061 arg21
  let c2_i32_1062 : BitVec 32 := 2#32
  let v1467 : BitVec 32 := Scalar.addi v1466 c2_i32_1062
  let c256_i32_1065 : BitVec 32 := 256#32
  let v1472 : BitVec 32 := Scalar.muli v1467 c256_i32_1065
  v1472
def k0_mult125 (i : grid0.Coords) (k0_t28 : Fin (k0_t28_loop i).trips) : BitVec 32 :=
  let c2_i32_1061 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1466 : BitVec 32 := Scalar.muli c2_i32_1061 arg21
  let c2_i32_1062 : BitVec 32 := 2#32
  let v1467 : BitVec 32 := Scalar.addi v1466 c2_i32_1062
  let c256_i32_1092 : BitVec 32 := 256#32
  let v1501 : BitVec 32 := Scalar.muli v1467 c256_i32_1092
  v1501
def k0_mult126 (i : grid0.Coords) (k0_t28 : Fin (k0_t28_loop i).trips) : BitVec 32 :=
  let c2_i32_1061 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1466 : BitVec 32 := Scalar.muli c2_i32_1061 arg21
  let c2_i32_1062 : BitVec 32 := 2#32
  let v1467 : BitVec 32 := Scalar.addi v1466 c2_i32_1062
  let c256_i32_1119 : BitVec 32 := 256#32
  let v1530 : BitVec 32 := Scalar.muli v1467 c256_i32_1119
  v1530
def k0_mult127 (i : grid0.Coords) (k0_t28 : Fin (k0_t28_loop i).trips) : BitVec 32 :=
  let c2_i32_1061 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1466 : BitVec 32 := Scalar.muli c2_i32_1061 arg21
  let c2_i32_1062 : BitVec 32 := 2#32
  let v1467 : BitVec 32 := Scalar.addi v1466 c2_i32_1062
  let c256_i32_1146 : BitVec 32 := 256#32
  let v1559 : BitVec 32 := Scalar.muli v1467 c256_i32_1146
  v1559
def k0_mult128 (i : grid0.Coords) (k0_t28 : Fin (k0_t28_loop i).trips) : BitVec 32 :=
  let c2_i32_1061 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1466 : BitVec 32 := Scalar.muli c2_i32_1061 arg21
  let c2_i32_1062 : BitVec 32 := 2#32
  let v1467 : BitVec 32 := Scalar.addi v1466 c2_i32_1062
  let c256_i32_1173 : BitVec 32 := 256#32
  let v1588 : BitVec 32 := Scalar.muli v1467 c256_i32_1173
  v1588
def k0_mult129 (i : grid0.Coords) (k0_t28 : Fin (k0_t28_loop i).trips) : BitVec 32 :=
  let c2_i32_1061 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1466 : BitVec 32 := Scalar.muli c2_i32_1061 arg21
  let c2_i32_1062 : BitVec 32 := 2#32
  let v1467 : BitVec 32 := Scalar.addi v1466 c2_i32_1062
  let c256_i32_1200 : BitVec 32 := 256#32
  let v1617 : BitVec 32 := Scalar.muli v1467 c256_i32_1200
  v1617
def k0_mult130 (i : grid0.Coords) (k0_t28 : Fin (k0_t28_loop i).trips) : BitVec 32 :=
  let c2_i32_1061 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1466 : BitVec 32 := Scalar.muli c2_i32_1061 arg21
  let c2_i32_1062 : BitVec 32 := 2#32
  let v1467 : BitVec 32 := Scalar.addi v1466 c2_i32_1062
  let c256_i32_1227 : BitVec 32 := 256#32
  let v1646 : BitVec 32 := Scalar.muli v1467 c256_i32_1227
  v1646
def k0_mult131 (i : grid0.Coords) (k0_t28 : Fin (k0_t28_loop i).trips) : BitVec 32 :=
  let c2_i32_1061 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1466 : BitVec 32 := Scalar.muli c2_i32_1061 arg21
  let c2_i32_1062 : BitVec 32 := 2#32
  let v1467 : BitVec 32 := Scalar.addi v1466 c2_i32_1062
  let c256_i32_1254 : BitVec 32 := 256#32
  let v1675 : BitVec 32 := Scalar.muli v1467 c256_i32_1254
  v1675
def k0_mult132 (i : grid0.Coords) (k0_t28 : Fin (k0_t28_loop i).trips) : BitVec 32 :=
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1298 : BitVec 32 := 256#32
  let v1722 : BitVec 32 := Scalar.muli v1705 c256_i32_1298
  v1722
def k0_off65 (i : grid0.Coords) (k0_t28 : Fin (k0_t28_loop i).trips) : Fin 2 → Nat :=
  let c0_1299 : Index := 0#32
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1298 : BitVec 32 := 256#32
  let v1722 : BitVec 32 := Scalar.muli v1705 c256_i32_1298
  let v1723 : BitVec 32 := v1722
  let v1724 : Index := Scalar.indexCast v1723
  ![0, v1724.toNat]
def k0_mult133 (i : grid0.Coords) (k0_t28 : Fin (k0_t28_loop i).trips) : BitVec 32 :=
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1319 : BitVec 32 := 256#32
  let v1747 : BitVec 32 := Scalar.muli v1705 c256_i32_1319
  v1747
def k0_off66 (i : grid0.Coords) (k0_t28 : Fin (k0_t28_loop i).trips) : Fin 2 → Nat :=
  let c80_1320 : Index := 80#32
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1319 : BitVec 32 := 256#32
  let v1747 : BitVec 32 := Scalar.muli v1705 c256_i32_1319
  let v1748 : BitVec 32 := v1747
  let v1749 : Index := Scalar.indexCast v1748
  ![80, v1749.toNat]
def k0_mult134 (i : grid0.Coords) (k0_t28 : Fin (k0_t28_loop i).trips) : BitVec 32 :=
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1340 : BitVec 32 := 256#32
  let v1772 : BitVec 32 := Scalar.muli v1705 c256_i32_1340
  v1772
def k0_off67 (i : grid0.Coords) (k0_t28 : Fin (k0_t28_loop i).trips) : Fin 2 → Nat :=
  let c160_1341 : Index := 160#32
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1340 : BitVec 32 := 256#32
  let v1772 : BitVec 32 := Scalar.muli v1705 c256_i32_1340
  let v1773 : BitVec 32 := v1772
  let v1774 : Index := Scalar.indexCast v1773
  ![160, v1774.toNat]
def k0_mult135 (i : grid0.Coords) (k0_t28 : Fin (k0_t28_loop i).trips) : BitVec 32 :=
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1361 : BitVec 32 := 256#32
  let v1797 : BitVec 32 := Scalar.muli v1705 c256_i32_1361
  v1797
def k0_off68 (i : grid0.Coords) (k0_t28 : Fin (k0_t28_loop i).trips) : Fin 2 → Nat :=
  let c240_1362 : Index := 240#32
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1361 : BitVec 32 := 256#32
  let v1797 : BitVec 32 := Scalar.muli v1705 c256_i32_1361
  let v1798 : BitVec 32 := v1797
  let v1799 : Index := Scalar.indexCast v1798
  ![240, v1799.toNat]
def k0_mult136 (i : grid0.Coords) (k0_t28 : Fin (k0_t28_loop i).trips) : BitVec 32 :=
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1382 : BitVec 32 := 256#32
  let v1822 : BitVec 32 := Scalar.muli v1705 c256_i32_1382
  v1822
def k0_off69 (i : grid0.Coords) (k0_t28 : Fin (k0_t28_loop i).trips) : Fin 2 → Nat :=
  let c320_1383 : Index := 320#32
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1382 : BitVec 32 := 256#32
  let v1822 : BitVec 32 := Scalar.muli v1705 c256_i32_1382
  let v1823 : BitVec 32 := v1822
  let v1824 : Index := Scalar.indexCast v1823
  ![320, v1824.toNat]
def k0_mult137 (i : grid0.Coords) (k0_t28 : Fin (k0_t28_loop i).trips) : BitVec 32 :=
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1403 : BitVec 32 := 256#32
  let v1847 : BitVec 32 := Scalar.muli v1705 c256_i32_1403
  v1847
def k0_off70 (i : grid0.Coords) (k0_t28 : Fin (k0_t28_loop i).trips) : Fin 2 → Nat :=
  let c400_1404 : Index := 400#32
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1403 : BitVec 32 := 256#32
  let v1847 : BitVec 32 := Scalar.muli v1705 c256_i32_1403
  let v1848 : BitVec 32 := v1847
  let v1849 : Index := Scalar.indexCast v1848
  ![400, v1849.toNat]
def k0_mult138 (i : grid0.Coords) (k0_t28 : Fin (k0_t28_loop i).trips) : BitVec 32 :=
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1424 : BitVec 32 := 256#32
  let v1872 : BitVec 32 := Scalar.muli v1705 c256_i32_1424
  v1872
def k0_off71 (i : grid0.Coords) (k0_t28 : Fin (k0_t28_loop i).trips) : Fin 2 → Nat :=
  let c480_1425 : Index := 480#32
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1424 : BitVec 32 := 256#32
  let v1872 : BitVec 32 := Scalar.muli v1705 c256_i32_1424
  let v1873 : BitVec 32 := v1872
  let v1874 : Index := Scalar.indexCast v1873
  ![480, v1874.toNat]
def k0_mult139 (i : grid0.Coords) (k0_t28 : Fin (k0_t28_loop i).trips) : BitVec 32 :=
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1445 : BitVec 32 := 256#32
  let v1897 : BitVec 32 := Scalar.muli v1705 c256_i32_1445
  v1897
def k0_off72 (i : grid0.Coords) (k0_t28 : Fin (k0_t28_loop i).trips) : Fin 2 → Nat :=
  let c560_1446 : Index := 560#32
  let c2_i32_1281 : BitVec 32 := 2#32
  let c0_i32_503 : BitVec 32 := 0#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v813 : BitVec 32 := Scalar.subi v812 c0_i32_503
  let c1_i32_504 : BitVec 32 := 1#32
  let v815 : BitVec 32 := Scalar.divsi v813 c1_i32_504
  let v816 : BitVec 32 := Scalar.muli v815 c1_i32_504
  let v817 : BitVec 32 := Scalar.addi c0_i32_503 v816
  let c1_i32_506 : BitVec 32 := 1#32
  let arg21 : BitVec 32 := Scf.iv v817 c1_i32_506 k0_t28
  let v1704 : BitVec 32 := Scalar.muli c2_i32_1281 arg21
  let c1_i32_1282 : BitVec 32 := 1#32
  let v1705 : BitVec 32 := Scalar.addi v1704 c1_i32_1282
  let c256_i32_1445 : BitVec 32 := 256#32
  let v1897 : BitVec 32 := Scalar.muli v1705 c256_i32_1445
  let v1898 : BitVec 32 := v1897
  let v1899 : Index := Scalar.indexCast v1898
  ![560, v1899.toNat]
def k0_cond14 (i : grid0.Coords) : BitVec 1 :=
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c2_i32_507 : BitVec 32 := 2#32
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let v819 : BitVec 32 := Scalar.subi v524 v818
  let c2_i32_508 : BitVec 32 := 2#32
  let v820 : BitVec 1 := Scalar.cmpi .eq v819 c2_i32_508
  let v821 : BitVec 32 := Scalar.extui v820
  let c0_i32_509 : BitVec 32 := 0#32
  let v822 : BitVec 1 := Scalar.cmpi .ne v821 c0_i32_509
  v822

def k0_mult140 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_673 : BitVec 32 := 256#32
  let v1028 : BitVec 32 := Scalar.muli v1027 c256_i32_673
  v1028
def k0_off73 (i : grid0.Coords) : Fin 2 → Nat :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_673 : BitVec 32 := 256#32
  let v1028 : BitVec 32 := Scalar.muli v1027 c256_i32_673
  let v1029 : BitVec 32 := v1028
  let v1030 : Index := Scalar.indexCast v1029
  let c0_674 : Index := 0#32
  ![v1030.toNat, 0]
def k0_mult141 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_675 : BitVec 32 := 256#32
  let v1032 : BitVec 32 := Scalar.muli v1027 c256_i32_675
  v1032
def k0_off74 (i : grid0.Coords) : Fin 2 → Nat :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_675 : BitVec 32 := 256#32
  let v1032 : BitVec 32 := Scalar.muli v1027 c256_i32_675
  let v1033 : BitVec 32 := v1032
  let v1034 : Index := Scalar.indexCast v1033
  let c0_676 : Index := 0#32
  ![v1034.toNat, 0]
def k0_mult142 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_702 : BitVec 32 := 256#32
  let v1061 : BitVec 32 := Scalar.muli v1027 c256_i32_702
  v1061
def k0_mult143 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_729 : BitVec 32 := 256#32
  let v1090 : BitVec 32 := Scalar.muli v1027 c256_i32_729
  v1090
def k0_off75 (i : grid0.Coords) : Fin 2 → Nat :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_729 : BitVec 32 := 256#32
  let v1090 : BitVec 32 := Scalar.muli v1027 c256_i32_729
  let v1091 : BitVec 32 := v1090
  let v1092 : Index := Scalar.indexCast v1091
  let c128_730 : Index := 128#32
  ![v1092.toNat, 128]
def k0_mult144 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_756 : BitVec 32 := 256#32
  let v1119 : BitVec 32 := Scalar.muli v1027 c256_i32_756
  v1119
def k0_mult145 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_783 : BitVec 32 := 256#32
  let v1148 : BitVec 32 := Scalar.muli v1027 c256_i32_783
  v1148
def k0_off76 (i : grid0.Coords) : Fin 2 → Nat :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_783 : BitVec 32 := 256#32
  let v1148 : BitVec 32 := Scalar.muli v1027 c256_i32_783
  let v1149 : BitVec 32 := v1148
  let v1150 : Index := Scalar.indexCast v1149
  let c256_784 : Index := 256#32
  ![v1150.toNat, 256]
def k0_mult146 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_810 : BitVec 32 := 256#32
  let v1177 : BitVec 32 := Scalar.muli v1027 c256_i32_810
  v1177
def k0_mult147 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_837 : BitVec 32 := 256#32
  let v1206 : BitVec 32 := Scalar.muli v1027 c256_i32_837
  v1206
def k0_off77 (i : grid0.Coords) : Fin 2 → Nat :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_837 : BitVec 32 := 256#32
  let v1206 : BitVec 32 := Scalar.muli v1027 c256_i32_837
  let v1207 : BitVec 32 := v1206
  let v1208 : Index := Scalar.indexCast v1207
  let c384_838 : Index := 384#32
  ![v1208.toNat, 384]
def k0_mult148 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_864 : BitVec 32 := 256#32
  let v1235 : BitVec 32 := Scalar.muli v1027 c256_i32_864
  v1235
def k0_mult149 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32 : BitVec 32 := 256#32
  let v839 : BitVec 32 := Scalar.muli v818 c256_i32
  v839
def k0_off78 (i : grid0.Coords) : Fin 2 → Nat :=
  let c0_525 : Index := 0#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32 : BitVec 32 := 256#32
  let v839 : BitVec 32 := Scalar.muli v818 c256_i32
  let v840 : BitVec 32 := v839
  let v841 : Index := Scalar.indexCast v840
  ![0, v841.toNat]
def k0_mult150 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_545 : BitVec 32 := 256#32
  let v864 : BitVec 32 := Scalar.muli v818 c256_i32_545
  v864
def k0_off79 (i : grid0.Coords) : Fin 2 → Nat :=
  let c80 : Index := 80#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_545 : BitVec 32 := 256#32
  let v864 : BitVec 32 := Scalar.muli v818 c256_i32_545
  let v865 : BitVec 32 := v864
  let v866 : Index := Scalar.indexCast v865
  ![80, v866.toNat]
def k0_mult151 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_565 : BitVec 32 := 256#32
  let v889 : BitVec 32 := Scalar.muli v818 c256_i32_565
  v889
def k0_off80 (i : grid0.Coords) : Fin 2 → Nat :=
  let c160 : Index := 160#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_565 : BitVec 32 := 256#32
  let v889 : BitVec 32 := Scalar.muli v818 c256_i32_565
  let v890 : BitVec 32 := v889
  let v891 : Index := Scalar.indexCast v890
  ![160, v891.toNat]
def k0_mult152 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_585 : BitVec 32 := 256#32
  let v914 : BitVec 32 := Scalar.muli v818 c256_i32_585
  v914
def k0_off81 (i : grid0.Coords) : Fin 2 → Nat :=
  let c240 : Index := 240#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_585 : BitVec 32 := 256#32
  let v914 : BitVec 32 := Scalar.muli v818 c256_i32_585
  let v915 : BitVec 32 := v914
  let v916 : Index := Scalar.indexCast v915
  ![240, v916.toNat]
def k0_mult153 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_605 : BitVec 32 := 256#32
  let v939 : BitVec 32 := Scalar.muli v818 c256_i32_605
  v939
def k0_off82 (i : grid0.Coords) : Fin 2 → Nat :=
  let c320 : Index := 320#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_605 : BitVec 32 := 256#32
  let v939 : BitVec 32 := Scalar.muli v818 c256_i32_605
  let v940 : BitVec 32 := v939
  let v941 : Index := Scalar.indexCast v940
  ![320, v941.toNat]
def k0_mult154 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_625 : BitVec 32 := 256#32
  let v964 : BitVec 32 := Scalar.muli v818 c256_i32_625
  v964
def k0_off83 (i : grid0.Coords) : Fin 2 → Nat :=
  let c400 : Index := 400#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_625 : BitVec 32 := 256#32
  let v964 : BitVec 32 := Scalar.muli v818 c256_i32_625
  let v965 : BitVec 32 := v964
  let v966 : Index := Scalar.indexCast v965
  ![400, v966.toNat]
def k0_mult155 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_645 : BitVec 32 := 256#32
  let v989 : BitVec 32 := Scalar.muli v818 c256_i32_645
  v989
def k0_off84 (i : grid0.Coords) : Fin 2 → Nat :=
  let c480 : Index := 480#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_645 : BitVec 32 := 256#32
  let v989 : BitVec 32 := Scalar.muli v818 c256_i32_645
  let v990 : BitVec 32 := v989
  let v991 : Index := Scalar.indexCast v990
  ![480, v991.toNat]
def k0_mult156 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_665 : BitVec 32 := 256#32
  let v1014 : BitVec 32 := Scalar.muli v818 c256_i32_665
  v1014
def k0_off85 (i : grid0.Coords) : Fin 2 → Nat :=
  let c560 : Index := 560#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c256_i32_665 : BitVec 32 := 256#32
  let v1014 : BitVec 32 := Scalar.muli v818 c256_i32_665
  let v1015 : BitVec 32 := v1014
  let v1016 : Index := Scalar.indexCast v1015
  ![560, v1016.toNat]
def k0_cond15 (i : grid0.Coords) : BitVec 1 :=
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c2_i32_507 : BitVec 32 := 2#32
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let v1023 : BitVec 32 := Scalar.subi v524 v818
  let c2_i32_670 : BitVec 32 := 2#32
  let v1024 : BitVec 1 := Scalar.cmpi .eq v1023 c2_i32_670
  let v1025 : BitVec 32 := Scalar.extui v1024
  let c0_i32_671 : BitVec 32 := 0#32
  let v1026 : BitVec 1 := Scalar.cmpi .ne v1025 c0_i32_671
  v1026

def k0_mult157 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_688 : BitVec 32 := 256#32
  let v1044 : BitVec 32 := Scalar.muli v1027 c256_i32_688
  v1044
def k0_off86 (i : grid0.Coords) : Fin 2 → Nat :=
  let c0_689 : Index := 0#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_688 : BitVec 32 := 256#32
  let v1044 : BitVec 32 := Scalar.muli v1027 c256_i32_688
  let v1045 : BitVec 32 := v1044
  let v1046 : Index := Scalar.indexCast v1045
  ![0, v1046.toNat]
def k0_mult158 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_709 : BitVec 32 := 256#32
  let v1069 : BitVec 32 := Scalar.muli v1027 c256_i32_709
  v1069
def k0_off87 (i : grid0.Coords) : Fin 2 → Nat :=
  let c80_710 : Index := 80#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_709 : BitVec 32 := 256#32
  let v1069 : BitVec 32 := Scalar.muli v1027 c256_i32_709
  let v1070 : BitVec 32 := v1069
  let v1071 : Index := Scalar.indexCast v1070
  ![80, v1071.toNat]
def k0_mult159 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_730 : BitVec 32 := 256#32
  let v1094 : BitVec 32 := Scalar.muli v1027 c256_i32_730
  v1094
def k0_off88 (i : grid0.Coords) : Fin 2 → Nat :=
  let c160_731 : Index := 160#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_730 : BitVec 32 := 256#32
  let v1094 : BitVec 32 := Scalar.muli v1027 c256_i32_730
  let v1095 : BitVec 32 := v1094
  let v1096 : Index := Scalar.indexCast v1095
  ![160, v1096.toNat]
def k0_mult160 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_751 : BitVec 32 := 256#32
  let v1119 : BitVec 32 := Scalar.muli v1027 c256_i32_751
  v1119
def k0_off89 (i : grid0.Coords) : Fin 2 → Nat :=
  let c240_752 : Index := 240#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_751 : BitVec 32 := 256#32
  let v1119 : BitVec 32 := Scalar.muli v1027 c256_i32_751
  let v1120 : BitVec 32 := v1119
  let v1121 : Index := Scalar.indexCast v1120
  ![240, v1121.toNat]
def k0_mult161 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_772 : BitVec 32 := 256#32
  let v1144 : BitVec 32 := Scalar.muli v1027 c256_i32_772
  v1144
def k0_off90 (i : grid0.Coords) : Fin 2 → Nat :=
  let c320_773 : Index := 320#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_772 : BitVec 32 := 256#32
  let v1144 : BitVec 32 := Scalar.muli v1027 c256_i32_772
  let v1145 : BitVec 32 := v1144
  let v1146 : Index := Scalar.indexCast v1145
  ![320, v1146.toNat]
def k0_mult162 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_793 : BitVec 32 := 256#32
  let v1169 : BitVec 32 := Scalar.muli v1027 c256_i32_793
  v1169
def k0_off91 (i : grid0.Coords) : Fin 2 → Nat :=
  let c400_794 : Index := 400#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_793 : BitVec 32 := 256#32
  let v1169 : BitVec 32 := Scalar.muli v1027 c256_i32_793
  let v1170 : BitVec 32 := v1169
  let v1171 : Index := Scalar.indexCast v1170
  ![400, v1171.toNat]
def k0_mult163 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_814 : BitVec 32 := 256#32
  let v1194 : BitVec 32 := Scalar.muli v1027 c256_i32_814
  v1194
def k0_off92 (i : grid0.Coords) : Fin 2 → Nat :=
  let c480_815 : Index := 480#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_814 : BitVec 32 := 256#32
  let v1194 : BitVec 32 := Scalar.muli v1027 c256_i32_814
  let v1195 : BitVec 32 := v1194
  let v1196 : Index := Scalar.indexCast v1195
  ![480, v1196.toNat]
def k0_mult164 (i : grid0.Coords) : BitVec 32 :=
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_835 : BitVec 32 := 256#32
  let v1219 : BitVec 32 := Scalar.muli v1027 c256_i32_835
  v1219
def k0_off93 (i : grid0.Coords) : Fin 2 → Nat :=
  let c560_836 : Index := 560#32
  let c2_i32_507 : BitVec 32 := 2#32
  let arg1 : BitVec 32 := BitVec.ofNat 32 (i 1).val
  let c1_i32_219 : BitVec 32 := 1#32
  let v523 : BitVec 32 := Scalar.subi arg1 c1_i32_219
  let c0_i32_220 : BitVec 32 := 0#32
  let v524 : BitVec 32 := Scalar.maxsi v523 c0_i32_220
  let c1_i32_494 : BitVec 32 := 1#32
  let v795 : BitVec 32 := Scalar.subi v524 c1_i32_494
  let c0_i32_496 : BitVec 32 := 0#32
  let v797 : BitVec 1 := Scalar.cmpi .sgt v795 c0_i32_496
  let v798 : BitVec 32 := Scalar.extui v797
  let c0_i32_497 : BitVec 32 := 0#32
  let v799 : BitVec 1 := Scalar.cmpi .slt v795 c0_i32_497
  let v800 : BitVec 32 := Scalar.extui v799
  let v801 : BitVec 32 := Scalar.subi v798 v800
  let c2_i32_495 : BitVec 32 := 2#32
  let c0_i32_498 : BitVec 32 := 0#32
  let v802 : BitVec 1 := Scalar.cmpi .sgt c2_i32_495 c0_i32_498
  let v803 : BitVec 32 := Scalar.extui v802
  let c0_i32_499 : BitVec 32 := 0#32
  let v804 : BitVec 1 := Scalar.cmpi .slt c2_i32_495 c0_i32_499
  let v805 : BitVec 32 := Scalar.extui v804
  let v806 : BitVec 32 := Scalar.subi v803 v805
  let v807 : BitVec 1 := Scalar.cmpi .ne v801 v806
  let v808 : BitVec 32 := Scalar.remsi v795 c2_i32_495
  let c0_i32_500 : BitVec 32 := 0#32
  let v809 : BitVec 1 := Scalar.cmpi .ne v808 c0_i32_500
  let v810 : BitVec 1 := Scalar.andi v807 v809
  let v796 : BitVec 32 := Scalar.divsi v795 c2_i32_495
  let c1_i32_501 : BitVec 32 := 1#32
  let v811 : BitVec 32 := Scalar.subi v796 c1_i32_501
  let v812 : BitVec 32 := Scalar.select v810 v811 v796
  let v818 : BitVec 32 := Scalar.muli c2_i32_507 v812
  let c1_i32_672 : BitVec 32 := 1#32
  let v1027 : BitVec 32 := Scalar.addi v818 c1_i32_672
  let c256_i32_835 : BitVec 32 := 256#32
  let v1219 : BitVec 32 := Scalar.muli v1027 c256_i32_835
  let v1220 : BitVec 32 := v1219
  let v1221 : Index := Scalar.indexCast v1220
  ![560, v1221.toNat]
def k0_cond16 (i : grid0.Coords) : BitVec 1 :=
  let arg1 : BitVec 32 := BitVec.ofNat 32 (i 1).val
  let c0_i32_223 : BitVec 32 := 0#32
  let v528 : BitVec 1 := Scalar.cmpi .sgt arg1 c0_i32_223
  let v529 : BitVec 32 := Scalar.extui v528
  let c0_i32_224 : BitVec 32 := 0#32
  let v530 : BitVec 1 := Scalar.cmpi .ne v529 c0_i32_224
  v530

def k0_mult165 (i : grid0.Coords) : BitVec 32 :=
  let arg1 : BitVec 32 := BitVec.ofNat 32 (i 1).val
  let c1_i32_276 : BitVec 32 := 1#32
  let v586 : BitVec 32 := Scalar.subi arg1 c1_i32_276
  let c256_i32 : BitVec 32 := 256#32
  let v587 : BitVec 32 := Scalar.muli v586 c256_i32
  v587
def k0_off94 (i : grid0.Coords) : Fin 2 → Nat :=
  let arg1 : BitVec 32 := BitVec.ofNat 32 (i 1).val
  let c1_i32_276 : BitVec 32 := 1#32
  let v586 : BitVec 32 := Scalar.subi arg1 c1_i32_276
  let c256_i32 : BitVec 32 := 256#32
  let v587 : BitVec 32 := Scalar.muli v586 c256_i32
  let v588 : BitVec 32 := v587
  let v589 : Index := Scalar.indexCast v588
  let c0_277 : Index := 0#32
  ![v589.toNat, 0]
def k0_mult166 (i : grid0.Coords) : BitVec 32 :=
  let arg1 : BitVec 32 := BitVec.ofNat 32 (i 1).val
  let c1_i32_276 : BitVec 32 := 1#32
  let v586 : BitVec 32 := Scalar.subi arg1 c1_i32_276
  let c256_i32_278 : BitVec 32 := 256#32
  let v591 : BitVec 32 := Scalar.muli v586 c256_i32_278
  v591
def k0_off95 (i : grid0.Coords) : Fin 2 → Nat :=
  let arg1 : BitVec 32 := BitVec.ofNat 32 (i 1).val
  let c1_i32_276 : BitVec 32 := 1#32
  let v586 : BitVec 32 := Scalar.subi arg1 c1_i32_276
  let c256_i32_278 : BitVec 32 := 256#32
  let v591 : BitVec 32 := Scalar.muli v586 c256_i32_278
  let v592 : BitVec 32 := v591
  let v593 : Index := Scalar.indexCast v592
  let c0_279 : Index := 0#32
  ![v593.toNat, 0]
def k0_off96 (i : grid0.Coords) : Fin 4 → Nat :=
  let arg1 : BitVec 32 := BitVec.ofNat 32 (i 1).val
  let c1_i32_276 : BitVec 32 := 1#32
  let v586 : BitVec 32 := Scalar.subi arg1 c1_i32_276
  let v599 : BitVec 32 := Scalar.subi v586 arg1
  let c1_i32_284 : BitVec 32 := 1#32
  let v600 : BitVec 32 := Scalar.addi v599 c1_i32_284
  let v601 : Index := Scalar.indexCast v600
  let c0_285 : Index := 0#32
  let c0_286 : Index := 0#32
  let c0_287 : Index := 0#32
  ![v601.toNat, 0, 0, 0]
def k0_mult167 (i : grid0.Coords) : BitVec 32 :=
  let arg1 : BitVec 32 := BitVec.ofNat 32 (i 1).val
  let c1_i32_276 : BitVec 32 := 1#32
  let v586 : BitVec 32 := Scalar.subi arg1 c1_i32_276
  let c256_i32_309 : BitVec 32 := 256#32
  let v626 : BitVec 32 := Scalar.muli v586 c256_i32_309
  v626
def k0_off97 (i : grid0.Coords) : Fin 4 → Nat :=
  let arg1 : BitVec 32 := BitVec.ofNat 32 (i 1).val
  let c1_i32_276 : BitVec 32 := 1#32
  let v586 : BitVec 32 := Scalar.subi arg1 c1_i32_276
  let v634 : BitVec 32 := Scalar.subi v586 arg1
  let c1_i32_315 : BitVec 32 := 1#32
  let v635 : BitVec 32 := Scalar.addi v634 c1_i32_315
  let v636 : Index := Scalar.indexCast v635
  let c1_316 : Index := 1#32
  let c0_317 : Index := 0#32
  let c0_318 : Index := 0#32
  ![v636.toNat, 1, 0, 0]
def k0_mult168 (i : grid0.Coords) : BitVec 32 :=
  let arg1 : BitVec 32 := BitVec.ofNat 32 (i 1).val
  let c1_i32_276 : BitVec 32 := 1#32
  let v586 : BitVec 32 := Scalar.subi arg1 c1_i32_276
  let c256_i32_340 : BitVec 32 := 256#32
  let v661 : BitVec 32 := Scalar.muli v586 c256_i32_340
  v661
def k0_off98 (i : grid0.Coords) : Fin 2 → Nat :=
  let arg1 : BitVec 32 := BitVec.ofNat 32 (i 1).val
  let c1_i32_276 : BitVec 32 := 1#32
  let v586 : BitVec 32 := Scalar.subi arg1 c1_i32_276
  let c256_i32_340 : BitVec 32 := 256#32
  let v661 : BitVec 32 := Scalar.muli v586 c256_i32_340
  let v662 : BitVec 32 := v661
  let v663 : Index := Scalar.indexCast v662
  let c128_341 : Index := 128#32
  ![v663.toNat, 128]
def k0_off99 (i : grid0.Coords) : Fin 4 → Nat :=
  let arg1 : BitVec 32 := BitVec.ofNat 32 (i 1).val
  let c1_i32_276 : BitVec 32 := 1#32
  let v586 : BitVec 32 := Scalar.subi arg1 c1_i32_276
  let v669 : BitVec 32 := Scalar.subi v586 arg1
  let c1_i32_346 : BitVec 32 := 1#32
  let v670 : BitVec 32 := Scalar.addi v669 c1_i32_346
  let v671 : Index := Scalar.indexCast v670
  let c2_347 : Index := 2#32
  let c0_348 : Index := 0#32
  let c0_349 : Index := 0#32
  ![v671.toNat, 2, 0, 0]
def k0_mult169 (i : grid0.Coords) : BitVec 32 :=
  let arg1 : BitVec 32 := BitVec.ofNat 32 (i 1).val
  let c1_i32_276 : BitVec 32 := 1#32
  let v586 : BitVec 32 := Scalar.subi arg1 c1_i32_276
  let c256_i32_371 : BitVec 32 := 256#32
  let v696 : BitVec 32 := Scalar.muli v586 c256_i32_371
  v696
def k0_off100 (i : grid0.Coords) : Fin 4 → Nat :=
  let arg1 : BitVec 32 := BitVec.ofNat 32 (i 1).val
  let c1_i32_276 : BitVec 32 := 1#32
  let v586 : BitVec 32 := Scalar.subi arg1 c1_i32_276
  let v704 : BitVec 32 := Scalar.subi v586 arg1
  let c1_i32_377 : BitVec 32 := 1#32
  let v705 : BitVec 32 := Scalar.addi v704 c1_i32_377
  let v706 : Index := Scalar.indexCast v705
  let c3_378 : Index := 3#32
  let c0_379 : Index := 0#32
  let c0_380 : Index := 0#32
  ![v706.toNat, 3, 0, 0]
def k0_mult170 (i : grid0.Coords) : BitVec 32 :=
  let arg1 : BitVec 32 := BitVec.ofNat 32 (i 1).val
  let c1_i32_276 : BitVec 32 := 1#32
  let v586 : BitVec 32 := Scalar.subi arg1 c1_i32_276
  let c256_i32_402 : BitVec 32 := 256#32
  let v731 : BitVec 32 := Scalar.muli v586 c256_i32_402
  v731
def k0_off101 (i : grid0.Coords) : Fin 2 → Nat :=
  let arg1 : BitVec 32 := BitVec.ofNat 32 (i 1).val
  let c1_i32_276 : BitVec 32 := 1#32
  let v586 : BitVec 32 := Scalar.subi arg1 c1_i32_276
  let c256_i32_402 : BitVec 32 := 256#32
  let v731 : BitVec 32 := Scalar.muli v586 c256_i32_402
  let v732 : BitVec 32 := v731
  let v733 : Index := Scalar.indexCast v732
  let c256_403 : Index := 256#32
  ![v733.toNat, 256]
def k0_off102 (i : grid0.Coords) : Fin 4 → Nat :=
  let arg1 : BitVec 32 := BitVec.ofNat 32 (i 1).val
  let c1_i32_276 : BitVec 32 := 1#32
  let v586 : BitVec 32 := Scalar.subi arg1 c1_i32_276
  let v739 : BitVec 32 := Scalar.subi v586 arg1
  let c1_i32_408 : BitVec 32 := 1#32
  let v740 : BitVec 32 := Scalar.addi v739 c1_i32_408
  let v741 : Index := Scalar.indexCast v740
  let c4_409 : Index := 4#32
  let c0_410 : Index := 0#32
  let c0_411 : Index := 0#32
  ![v741.toNat, 4, 0, 0]
def k0_mult171 (i : grid0.Coords) : BitVec 32 :=
  let arg1 : BitVec 32 := BitVec.ofNat 32 (i 1).val
  let c1_i32_276 : BitVec 32 := 1#32
  let v586 : BitVec 32 := Scalar.subi arg1 c1_i32_276
  let c256_i32_433 : BitVec 32 := 256#32
  let v766 : BitVec 32 := Scalar.muli v586 c256_i32_433
  v766
def k0_off103 (i : grid0.Coords) : Fin 4 → Nat :=
  let arg1 : BitVec 32 := BitVec.ofNat 32 (i 1).val
  let c1_i32_276 : BitVec 32 := 1#32
  let v586 : BitVec 32 := Scalar.subi arg1 c1_i32_276
  let v774 : BitVec 32 := Scalar.subi v586 arg1
  let c1_i32_439 : BitVec 32 := 1#32
  let v775 : BitVec 32 := Scalar.addi v774 c1_i32_439
  let v776 : Index := Scalar.indexCast v775
  let c5_440 : Index := 5#32
  let c0_441 : Index := 0#32
  let c0_442 : Index := 0#32
  ![v776.toNat, 5, 0, 0]
def k0_mult172 (i : grid0.Coords) : BitVec 32 :=
  let arg1 : BitVec 32 := BitVec.ofNat 32 (i 1).val
  let c1_i32_276 : BitVec 32 := 1#32
  let v586 : BitVec 32 := Scalar.subi arg1 c1_i32_276
  let c256_i32_464 : BitVec 32 := 256#32
  let v801 : BitVec 32 := Scalar.muli v586 c256_i32_464
  v801
def k0_off104 (i : grid0.Coords) : Fin 2 → Nat :=
  let arg1 : BitVec 32 := BitVec.ofNat 32 (i 1).val
  let c1_i32_276 : BitVec 32 := 1#32
  let v586 : BitVec 32 := Scalar.subi arg1 c1_i32_276
  let c256_i32_464 : BitVec 32 := 256#32
  let v801 : BitVec 32 := Scalar.muli v586 c256_i32_464
  let v802 : BitVec 32 := v801
  let v803 : Index := Scalar.indexCast v802
  let c384_465 : Index := 384#32
  ![v803.toNat, 384]
def k0_off105 (i : grid0.Coords) : Fin 4 → Nat :=
  let arg1 : BitVec 32 := BitVec.ofNat 32 (i 1).val
  let c1_i32_276 : BitVec 32 := 1#32
  let v586 : BitVec 32 := Scalar.subi arg1 c1_i32_276
  let v809 : BitVec 32 := Scalar.subi v586 arg1
  let c1_i32_470 : BitVec 32 := 1#32
  let v810 : BitVec 32 := Scalar.addi v809 c1_i32_470
  let v811 : Index := Scalar.indexCast v810
  let c6_471 : Index := 6#32
  let c0_472 : Index := 0#32
  let c0_473 : Index := 0#32
  ![v811.toNat, 6, 0, 0]
def k0_mult173 (i : grid0.Coords) : BitVec 32 :=
  let arg1 : BitVec 32 := BitVec.ofNat 32 (i 1).val
  let c1_i32_276 : BitVec 32 := 1#32
  let v586 : BitVec 32 := Scalar.subi arg1 c1_i32_276
  let c256_i32_495 : BitVec 32 := 256#32
  let v836 : BitVec 32 := Scalar.muli v586 c256_i32_495
  v836
def k0_off106 (i : grid0.Coords) : Fin 4 → Nat :=
  let arg1 : BitVec 32 := BitVec.ofNat 32 (i 1).val
  let c1_i32_276 : BitVec 32 := 1#32
  let v586 : BitVec 32 := Scalar.subi arg1 c1_i32_276
  let v844 : BitVec 32 := Scalar.subi v586 arg1
  let c1_i32_501 : BitVec 32 := 1#32
  let v845 : BitVec 32 := Scalar.addi v844 c1_i32_501
  let v846 : Index := Scalar.indexCast v845
  let c7_502 : Index := 7#32
  let c0_503 : Index := 0#32
  let c0_504 : Index := 0#32
  ![v846.toNat, 7, 0, 0]
def k0_mult174 (i : grid0.Coords) : BitVec 32 :=
  let arg1 : BitVec 32 := BitVec.ofNat 32 (i 1).val
  let c256_i32_526 : BitVec 32 := 256#32
  let v871 : BitVec 32 := Scalar.muli arg1 c256_i32_526
  v871
def k0_off107 (i : grid0.Coords) : Fin 2 → Nat :=
  let arg1 : BitVec 32 := BitVec.ofNat 32 (i 1).val
  let c256_i32_526 : BitVec 32 := 256#32
  let v871 : BitVec 32 := Scalar.muli arg1 c256_i32_526
  let v872 : BitVec 32 := v871
  let v873 : Index := Scalar.indexCast v872
  let c0_527 : Index := 0#32
  ![v873.toNat, 0]
def k0_mult175 (i : grid0.Coords) : BitVec 32 :=
  let arg1 : BitVec 32 := BitVec.ofNat 32 (i 1).val
  let c256_i32_528 : BitVec 32 := 256#32
  let v875 : BitVec 32 := Scalar.muli arg1 c256_i32_528
  v875
def k0_off108 (i : grid0.Coords) : Fin 2 → Nat :=
  let arg1 : BitVec 32 := BitVec.ofNat 32 (i 1).val
  let c256_i32_528 : BitVec 32 := 256#32
  let v875 : BitVec 32 := Scalar.muli arg1 c256_i32_528
  let v876 : BitVec 32 := v875
  let v877 : Index := Scalar.indexCast v876
  let c0_529 : Index := 0#32
  ![v877.toNat, 0]
def k0_off109 (i : grid0.Coords) : Fin 4 → Nat :=
  let arg1 : BitVec 32 := BitVec.ofNat 32 (i 1).val
  let v883 : BitVec 32 := Scalar.subi arg1 arg1
  let c1_i32_534 : BitVec 32 := 1#32
  let v884 : BitVec 32 := Scalar.addi v883 c1_i32_534
  let v885 : Index := Scalar.indexCast v884
  let c0_535 : Index := 0#32
  let c0_536 : Index := 0#32
  let c0_537 : Index := 0#32
  ![v885.toNat, 0, 0, 0]
def k0_mult176 (i : grid0.Coords) : BitVec 32 :=
  let arg1 : BitVec 32 := BitVec.ofNat 32 (i 1).val
  let c256_i32_559 : BitVec 32 := 256#32
  let v910 : BitVec 32 := Scalar.muli arg1 c256_i32_559
  v910
def k0_off110 (i : grid0.Coords) : Fin 4 → Nat :=
  let arg1 : BitVec 32 := BitVec.ofNat 32 (i 1).val
  let v918 : BitVec 32 := Scalar.subi arg1 arg1
  let c1_i32_565 : BitVec 32 := 1#32
  let v919 : BitVec 32 := Scalar.addi v918 c1_i32_565
  let v920 : Index := Scalar.indexCast v919
  let c1_566 : Index := 1#32
  let c0_567 : Index := 0#32
  let c0_568 : Index := 0#32
  ![v920.toNat, 1, 0, 0]
def k0_mult177 (i : grid0.Coords) : BitVec 32 :=
  let arg1 : BitVec 32 := BitVec.ofNat 32 (i 1).val
  let c256_i32_590 : BitVec 32 := 256#32
  let v945 : BitVec 32 := Scalar.muli arg1 c256_i32_590
  v945
def k0_off111 (i : grid0.Coords) : Fin 2 → Nat :=
  let arg1 : BitVec 32 := BitVec.ofNat 32 (i 1).val
  let c256_i32_590 : BitVec 32 := 256#32
  let v945 : BitVec 32 := Scalar.muli arg1 c256_i32_590
  let v946 : BitVec 32 := v945
  let v947 : Index := Scalar.indexCast v946
  let c128_591 : Index := 128#32
  ![v947.toNat, 128]
def k0_off112 (i : grid0.Coords) : Fin 4 → Nat :=
  let arg1 : BitVec 32 := BitVec.ofNat 32 (i 1).val
  let v953 : BitVec 32 := Scalar.subi arg1 arg1
  let c1_i32_596 : BitVec 32 := 1#32
  let v954 : BitVec 32 := Scalar.addi v953 c1_i32_596
  let v955 : Index := Scalar.indexCast v954
  let c2_597 : Index := 2#32
  let c0_598 : Index := 0#32
  let c0_599 : Index := 0#32
  ![v955.toNat, 2, 0, 0]
def k0_mult178 (i : grid0.Coords) : BitVec 32 :=
  let arg1 : BitVec 32 := BitVec.ofNat 32 (i 1).val
  let c256_i32_621 : BitVec 32 := 256#32
  let v980 : BitVec 32 := Scalar.muli arg1 c256_i32_621
  v980
def k0_off113 (i : grid0.Coords) : Fin 4 → Nat :=
  let arg1 : BitVec 32 := BitVec.ofNat 32 (i 1).val
  let v988 : BitVec 32 := Scalar.subi arg1 arg1
  let c1_i32_627 : BitVec 32 := 1#32
  let v989 : BitVec 32 := Scalar.addi v988 c1_i32_627
  let v990 : Index := Scalar.indexCast v989
  let c3_628 : Index := 3#32
  let c0_629 : Index := 0#32
  let c0_630 : Index := 0#32
  ![v990.toNat, 3, 0, 0]
def k0_mult179 (i : grid0.Coords) : BitVec 32 :=
  let arg1 : BitVec 32 := BitVec.ofNat 32 (i 1).val
  let c256_i32_652 : BitVec 32 := 256#32
  let v1015 : BitVec 32 := Scalar.muli arg1 c256_i32_652
  v1015
def k0_off114 (i : grid0.Coords) : Fin 2 → Nat :=
  let arg1 : BitVec 32 := BitVec.ofNat 32 (i 1).val
  let c256_i32_652 : BitVec 32 := 256#32
  let v1015 : BitVec 32 := Scalar.muli arg1 c256_i32_652
  let v1016 : BitVec 32 := v1015
  let v1017 : Index := Scalar.indexCast v1016
  let c256_653 : Index := 256#32
  ![v1017.toNat, 256]
def k0_off115 (i : grid0.Coords) : Fin 4 → Nat :=
  let arg1 : BitVec 32 := BitVec.ofNat 32 (i 1).val
  let v1023 : BitVec 32 := Scalar.subi arg1 arg1
  let c1_i32_658 : BitVec 32 := 1#32
  let v1024 : BitVec 32 := Scalar.addi v1023 c1_i32_658
  let v1025 : Index := Scalar.indexCast v1024
  let c4_659 : Index := 4#32
  let c0_660 : Index := 0#32
  let c0_661 : Index := 0#32
  ![v1025.toNat, 4, 0, 0]
def k0_mult180 (i : grid0.Coords) : BitVec 32 :=
  let arg1 : BitVec 32 := BitVec.ofNat 32 (i 1).val
  let c256_i32_683 : BitVec 32 := 256#32
  let v1050 : BitVec 32 := Scalar.muli arg1 c256_i32_683
  v1050
def k0_off116 (i : grid0.Coords) : Fin 4 → Nat :=
  let arg1 : BitVec 32 := BitVec.ofNat 32 (i 1).val
  let v1058 : BitVec 32 := Scalar.subi arg1 arg1
  let c1_i32_689 : BitVec 32 := 1#32
  let v1059 : BitVec 32 := Scalar.addi v1058 c1_i32_689
  let v1060 : Index := Scalar.indexCast v1059
  let c5_690 : Index := 5#32
  let c0_691 : Index := 0#32
  let c0_692 : Index := 0#32
  ![v1060.toNat, 5, 0, 0]
def k0_mult181 (i : grid0.Coords) : BitVec 32 :=
  let arg1 : BitVec 32 := BitVec.ofNat 32 (i 1).val
  let c256_i32_714 : BitVec 32 := 256#32
  let v1085 : BitVec 32 := Scalar.muli arg1 c256_i32_714
  v1085
def k0_off117 (i : grid0.Coords) : Fin 2 → Nat :=
  let arg1 : BitVec 32 := BitVec.ofNat 32 (i 1).val
  let c256_i32_714 : BitVec 32 := 256#32
  let v1085 : BitVec 32 := Scalar.muli arg1 c256_i32_714
  let v1086 : BitVec 32 := v1085
  let v1087 : Index := Scalar.indexCast v1086
  let c384_715 : Index := 384#32
  ![v1087.toNat, 384]
def k0_off118 (i : grid0.Coords) : Fin 4 → Nat :=
  let arg1 : BitVec 32 := BitVec.ofNat 32 (i 1).val
  let v1093 : BitVec 32 := Scalar.subi arg1 arg1
  let c1_i32_720 : BitVec 32 := 1#32
  let v1094 : BitVec 32 := Scalar.addi v1093 c1_i32_720
  let v1095 : Index := Scalar.indexCast v1094
  let c6_721 : Index := 6#32
  let c0_722 : Index := 0#32
  let c0_723 : Index := 0#32
  ![v1095.toNat, 6, 0, 0]
def k0_mult182 (i : grid0.Coords) : BitVec 32 :=
  let arg1 : BitVec 32 := BitVec.ofNat 32 (i 1).val
  let c256_i32_745 : BitVec 32 := 256#32
  let v1120 : BitVec 32 := Scalar.muli arg1 c256_i32_745
  v1120
def k0_off119 (i : grid0.Coords) : Fin 4 → Nat :=
  let arg1 : BitVec 32 := BitVec.ofNat 32 (i 1).val
  let v1128 : BitVec 32 := Scalar.subi arg1 arg1
  let c1_i32_751 : BitVec 32 := 1#32
  let v1129 : BitVec 32 := Scalar.addi v1128 c1_i32_751
  let v1130 : Index := Scalar.indexCast v1129
  let c7_752 : Index := 7#32
  let c0_753 : Index := 0#32
  let c0_754 : Index := 0#32
  ![v1130.toNat, 7, 0, 0]
def k0_mult183 (i : grid0.Coords) : BitVec 32 :=
  let arg1 : BitVec 32 := BitVec.ofNat 32 (i 1).val
  let c1_i32_776 : BitVec 32 := 1#32
  let v1155 : BitVec 32 := Scalar.subi arg1 c1_i32_776
  let c256_i32_792 : BitVec 32 := 256#32
  let v1172 : BitVec 32 := Scalar.muli v1155 c256_i32_792
  v1172
def k0_off120 (i : grid0.Coords) : Fin 2 → Nat :=
  let c0_793 : Index := 0#32
  let arg1 : BitVec 32 := BitVec.ofNat 32 (i 1).val
  let c1_i32_776 : BitVec 32 := 1#32
  let v1155 : BitVec 32 := Scalar.subi arg1 c1_i32_776
  let c256_i32_792 : BitVec 32 := 256#32
  let v1172 : BitVec 32 := Scalar.muli v1155 c256_i32_792
  let v1173 : BitVec 32 := v1172
  let v1174 : Index := Scalar.indexCast v1173
  ![0, v1174.toNat]
def k0_mult184 (i : grid0.Coords) : BitVec 32 :=
  let arg1 : BitVec 32 := BitVec.ofNat 32 (i 1).val
  let c1_i32_776 : BitVec 32 := 1#32
  let v1155 : BitVec 32 := Scalar.subi arg1 c1_i32_776
  let c256_i32_813 : BitVec 32 := 256#32
  let v1197 : BitVec 32 := Scalar.muli v1155 c256_i32_813
  v1197
def k0_off121 (i : grid0.Coords) : Fin 2 → Nat :=
  let c80 : Index := 80#32
  let arg1 : BitVec 32 := BitVec.ofNat 32 (i 1).val
  let c1_i32_776 : BitVec 32 := 1#32
  let v1155 : BitVec 32 := Scalar.subi arg1 c1_i32_776
  let c256_i32_813 : BitVec 32 := 256#32
  let v1197 : BitVec 32 := Scalar.muli v1155 c256_i32_813
  let v1198 : BitVec 32 := v1197
  let v1199 : Index := Scalar.indexCast v1198
  ![80, v1199.toNat]
def k0_mult185 (i : grid0.Coords) : BitVec 32 :=
  let arg1 : BitVec 32 := BitVec.ofNat 32 (i 1).val
  let c1_i32_776 : BitVec 32 := 1#32
  let v1155 : BitVec 32 := Scalar.subi arg1 c1_i32_776
  let c256_i32_833 : BitVec 32 := 256#32
  let v1222 : BitVec 32 := Scalar.muli v1155 c256_i32_833
  v1222
def k0_off122 (i : grid0.Coords) : Fin 2 → Nat :=
  let c160 : Index := 160#32
  let arg1 : BitVec 32 := BitVec.ofNat 32 (i 1).val
  let c1_i32_776 : BitVec 32 := 1#32
  let v1155 : BitVec 32 := Scalar.subi arg1 c1_i32_776
  let c256_i32_833 : BitVec 32 := 256#32
  let v1222 : BitVec 32 := Scalar.muli v1155 c256_i32_833
  let v1223 : BitVec 32 := v1222
  let v1224 : Index := Scalar.indexCast v1223
  ![160, v1224.toNat]
def k0_mult186 (i : grid0.Coords) : BitVec 32 :=
  let arg1 : BitVec 32 := BitVec.ofNat 32 (i 1).val
  let c1_i32_776 : BitVec 32 := 1#32
  let v1155 : BitVec 32 := Scalar.subi arg1 c1_i32_776
  let c256_i32_853 : BitVec 32 := 256#32
  let v1247 : BitVec 32 := Scalar.muli v1155 c256_i32_853
  v1247
def k0_off123 (i : grid0.Coords) : Fin 2 → Nat :=
  let c240 : Index := 240#32
  let arg1 : BitVec 32 := BitVec.ofNat 32 (i 1).val
  let c1_i32_776 : BitVec 32 := 1#32
  let v1155 : BitVec 32 := Scalar.subi arg1 c1_i32_776
  let c256_i32_853 : BitVec 32 := 256#32
  let v1247 : BitVec 32 := Scalar.muli v1155 c256_i32_853
  let v1248 : BitVec 32 := v1247
  let v1249 : Index := Scalar.indexCast v1248
  ![240, v1249.toNat]
def k0_mult187 (i : grid0.Coords) : BitVec 32 :=
  let arg1 : BitVec 32 := BitVec.ofNat 32 (i 1).val
  let c1_i32_776 : BitVec 32 := 1#32
  let v1155 : BitVec 32 := Scalar.subi arg1 c1_i32_776
  let c256_i32_873 : BitVec 32 := 256#32
  let v1272 : BitVec 32 := Scalar.muli v1155 c256_i32_873
  v1272
def k0_off124 (i : grid0.Coords) : Fin 2 → Nat :=
  let c320 : Index := 320#32
  let arg1 : BitVec 32 := BitVec.ofNat 32 (i 1).val
  let c1_i32_776 : BitVec 32 := 1#32
  let v1155 : BitVec 32 := Scalar.subi arg1 c1_i32_776
  let c256_i32_873 : BitVec 32 := 256#32
  let v1272 : BitVec 32 := Scalar.muli v1155 c256_i32_873
  let v1273 : BitVec 32 := v1272
  let v1274 : Index := Scalar.indexCast v1273
  ![320, v1274.toNat]
def k0_mult188 (i : grid0.Coords) : BitVec 32 :=
  let arg1 : BitVec 32 := BitVec.ofNat 32 (i 1).val
  let c1_i32_776 : BitVec 32 := 1#32
  let v1155 : BitVec 32 := Scalar.subi arg1 c1_i32_776
  let c256_i32_893 : BitVec 32 := 256#32
  let v1297 : BitVec 32 := Scalar.muli v1155 c256_i32_893
  v1297
def k0_off125 (i : grid0.Coords) : Fin 2 → Nat :=
  let c400 : Index := 400#32
  let arg1 : BitVec 32 := BitVec.ofNat 32 (i 1).val
  let c1_i32_776 : BitVec 32 := 1#32
  let v1155 : BitVec 32 := Scalar.subi arg1 c1_i32_776
  let c256_i32_893 : BitVec 32 := 256#32
  let v1297 : BitVec 32 := Scalar.muli v1155 c256_i32_893
  let v1298 : BitVec 32 := v1297
  let v1299 : Index := Scalar.indexCast v1298
  ![400, v1299.toNat]
def k0_mult189 (i : grid0.Coords) : BitVec 32 :=
  let arg1 : BitVec 32 := BitVec.ofNat 32 (i 1).val
  let c1_i32_776 : BitVec 32 := 1#32
  let v1155 : BitVec 32 := Scalar.subi arg1 c1_i32_776
  let c256_i32_913 : BitVec 32 := 256#32
  let v1322 : BitVec 32 := Scalar.muli v1155 c256_i32_913
  v1322
def k0_off126 (i : grid0.Coords) : Fin 2 → Nat :=
  let c480 : Index := 480#32
  let arg1 : BitVec 32 := BitVec.ofNat 32 (i 1).val
  let c1_i32_776 : BitVec 32 := 1#32
  let v1155 : BitVec 32 := Scalar.subi arg1 c1_i32_776
  let c256_i32_913 : BitVec 32 := 256#32
  let v1322 : BitVec 32 := Scalar.muli v1155 c256_i32_913
  let v1323 : BitVec 32 := v1322
  let v1324 : Index := Scalar.indexCast v1323
  ![480, v1324.toNat]
def k0_mult190 (i : grid0.Coords) : BitVec 32 :=
  let arg1 : BitVec 32 := BitVec.ofNat 32 (i 1).val
  let c1_i32_776 : BitVec 32 := 1#32
  let v1155 : BitVec 32 := Scalar.subi arg1 c1_i32_776
  let c256_i32_933 : BitVec 32 := 256#32
  let v1347 : BitVec 32 := Scalar.muli v1155 c256_i32_933
  v1347
def k0_off127 (i : grid0.Coords) : Fin 2 → Nat :=
  let c560 : Index := 560#32
  let arg1 : BitVec 32 := BitVec.ofNat 32 (i 1).val
  let c1_i32_776 : BitVec 32 := 1#32
  let v1155 : BitVec 32 := Scalar.subi arg1 c1_i32_776
  let c256_i32_933 : BitVec 32 := 256#32
  let v1347 : BitVec 32 := Scalar.muli v1155 c256_i32_933
  let v1348 : BitVec 32 := v1347
  let v1349 : Index := Scalar.indexCast v1348
  ![560, v1349.toNat]
def k0_mult191 (i : grid0.Coords) : BitVec 32 :=
  let arg1 : BitVec 32 := BitVec.ofNat 32 (i 1).val
  let c256_i32_953 : BitVec 32 := 256#32
  let v1372 : BitVec 32 := Scalar.muli arg1 c256_i32_953
  v1372
def k0_off128 (i : grid0.Coords) : Fin 2 → Nat :=
  let c0_954 : Index := 0#32
  let arg1 : BitVec 32 := BitVec.ofNat 32 (i 1).val
  let c256_i32_953 : BitVec 32 := 256#32
  let v1372 : BitVec 32 := Scalar.muli arg1 c256_i32_953
  let v1373 : BitVec 32 := v1372
  let v1374 : Index := Scalar.indexCast v1373
  ![0, v1374.toNat]
def k0_mult192 (i : grid0.Coords) : BitVec 32 :=
  let arg1 : BitVec 32 := BitVec.ofNat 32 (i 1).val
  let c256_i32_974 : BitVec 32 := 256#32
  let v1397 : BitVec 32 := Scalar.muli arg1 c256_i32_974
  v1397
def k0_off129 (i : grid0.Coords) : Fin 2 → Nat :=
  let c80_975 : Index := 80#32
  let arg1 : BitVec 32 := BitVec.ofNat 32 (i 1).val
  let c256_i32_974 : BitVec 32 := 256#32
  let v1397 : BitVec 32 := Scalar.muli arg1 c256_i32_974
  let v1398 : BitVec 32 := v1397
  let v1399 : Index := Scalar.indexCast v1398
  ![80, v1399.toNat]
def k0_mult193 (i : grid0.Coords) : BitVec 32 :=
  let arg1 : BitVec 32 := BitVec.ofNat 32 (i 1).val
  let c256_i32_995 : BitVec 32 := 256#32
  let v1422 : BitVec 32 := Scalar.muli arg1 c256_i32_995
  v1422
def k0_off130 (i : grid0.Coords) : Fin 2 → Nat :=
  let c160_996 : Index := 160#32
  let arg1 : BitVec 32 := BitVec.ofNat 32 (i 1).val
  let c256_i32_995 : BitVec 32 := 256#32
  let v1422 : BitVec 32 := Scalar.muli arg1 c256_i32_995
  let v1423 : BitVec 32 := v1422
  let v1424 : Index := Scalar.indexCast v1423
  ![160, v1424.toNat]
def k0_mult194 (i : grid0.Coords) : BitVec 32 :=
  let arg1 : BitVec 32 := BitVec.ofNat 32 (i 1).val
  let c256_i32_1016 : BitVec 32 := 256#32
  let v1447 : BitVec 32 := Scalar.muli arg1 c256_i32_1016
  v1447
def k0_off131 (i : grid0.Coords) : Fin 2 → Nat :=
  let c240_1017 : Index := 240#32
  let arg1 : BitVec 32 := BitVec.ofNat 32 (i 1).val
  let c256_i32_1016 : BitVec 32 := 256#32
  let v1447 : BitVec 32 := Scalar.muli arg1 c256_i32_1016
  let v1448 : BitVec 32 := v1447
  let v1449 : Index := Scalar.indexCast v1448
  ![240, v1449.toNat]
def k0_mult195 (i : grid0.Coords) : BitVec 32 :=
  let arg1 : BitVec 32 := BitVec.ofNat 32 (i 1).val
  let c256_i32_1037 : BitVec 32 := 256#32
  let v1472 : BitVec 32 := Scalar.muli arg1 c256_i32_1037
  v1472
def k0_off132 (i : grid0.Coords) : Fin 2 → Nat :=
  let c320_1038 : Index := 320#32
  let arg1 : BitVec 32 := BitVec.ofNat 32 (i 1).val
  let c256_i32_1037 : BitVec 32 := 256#32
  let v1472 : BitVec 32 := Scalar.muli arg1 c256_i32_1037
  let v1473 : BitVec 32 := v1472
  let v1474 : Index := Scalar.indexCast v1473
  ![320, v1474.toNat]
def k0_mult196 (i : grid0.Coords) : BitVec 32 :=
  let arg1 : BitVec 32 := BitVec.ofNat 32 (i 1).val
  let c256_i32_1058 : BitVec 32 := 256#32
  let v1497 : BitVec 32 := Scalar.muli arg1 c256_i32_1058
  v1497
def k0_off133 (i : grid0.Coords) : Fin 2 → Nat :=
  let c400_1059 : Index := 400#32
  let arg1 : BitVec 32 := BitVec.ofNat 32 (i 1).val
  let c256_i32_1058 : BitVec 32 := 256#32
  let v1497 : BitVec 32 := Scalar.muli arg1 c256_i32_1058
  let v1498 : BitVec 32 := v1497
  let v1499 : Index := Scalar.indexCast v1498
  ![400, v1499.toNat]
def k0_mult197 (i : grid0.Coords) : BitVec 32 :=
  let arg1 : BitVec 32 := BitVec.ofNat 32 (i 1).val
  let c256_i32_1079 : BitVec 32 := 256#32
  let v1522 : BitVec 32 := Scalar.muli arg1 c256_i32_1079
  v1522
def k0_off134 (i : grid0.Coords) : Fin 2 → Nat :=
  let c480_1080 : Index := 480#32
  let arg1 : BitVec 32 := BitVec.ofNat 32 (i 1).val
  let c256_i32_1079 : BitVec 32 := 256#32
  let v1522 : BitVec 32 := Scalar.muli arg1 c256_i32_1079
  let v1523 : BitVec 32 := v1522
  let v1524 : Index := Scalar.indexCast v1523
  ![480, v1524.toNat]
def k0_mult198 (i : grid0.Coords) : BitVec 32 :=
  let arg1 : BitVec 32 := BitVec.ofNat 32 (i 1).val
  let c256_i32_1100 : BitVec 32 := 256#32
  let v1547 : BitVec 32 := Scalar.muli arg1 c256_i32_1100
  v1547
def k0_off135 (i : grid0.Coords) : Fin 2 → Nat :=
  let c560_1101 : Index := 560#32
  let arg1 : BitVec 32 := BitVec.ofNat 32 (i 1).val
  let c256_i32_1100 : BitVec 32 := 256#32
  let v1547 : BitVec 32 := Scalar.muli arg1 c256_i32_1100
  let v1548 : BitVec 32 := v1547
  let v1549 : Index := Scalar.indexCast v1548
  ![560, v1549.toNat]
def k0_cond17 (i : grid0.Coords) : BitVec 1 :=
  let arg1 : BitVec 32 := BitVec.ofNat 32 (i 1).val
  let c0_i32_225 : BitVec 32 := 0#32
  let v531 : BitVec 1 := Scalar.cmpi .eq arg1 c0_i32_225
  let v532 : BitVec 32 := Scalar.extui v531
  let c0_i32_226 : BitVec 32 := 0#32
  let v533 : BitVec 1 := Scalar.cmpi .ne v532 c0_i32_226
  v533

def k0_off136 (i : grid0.Coords) : Fin 4 → Nat :=
  let c0_i32_284 : BitVec 32 := 0#32
  let arg1 : BitVec 32 := BitVec.ofNat 32 (i 1).val
  let v592 : BitVec 32 := Scalar.subi c0_i32_284 arg1
  let c1_i32_285 : BitVec 32 := 1#32
  let v593 : BitVec 32 := Scalar.addi v592 c1_i32_285
  let v594 : Index := Scalar.indexCast v593
  let c0_286 : Index := 0#32
  let c0_287 : Index := 0#32
  let c0_288 : Index := 0#32
  ![v594.toNat, 0, 0, 0]
def k0_off137 (i : grid0.Coords) : Fin 4 → Nat :=
  let c0_i32_316 : BitVec 32 := 0#32
  let arg1 : BitVec 32 := BitVec.ofNat 32 (i 1).val
  let v624 : BitVec 32 := Scalar.subi c0_i32_316 arg1
  let c1_i32_317 : BitVec 32 := 1#32
  let v625 : BitVec 32 := Scalar.addi v624 c1_i32_317
  let v626 : Index := Scalar.indexCast v625
  let c1_318 : Index := 1#32
  let c0_319 : Index := 0#32
  let c0_320 : Index := 0#32
  ![v626.toNat, 1, 0, 0]
def k0_off138 (i : grid0.Coords) : Fin 4 → Nat :=
  let c0_i32_348 : BitVec 32 := 0#32
  let arg1 : BitVec 32 := BitVec.ofNat 32 (i 1).val
  let v656 : BitVec 32 := Scalar.subi c0_i32_348 arg1
  let c1_i32_349 : BitVec 32 := 1#32
  let v657 : BitVec 32 := Scalar.addi v656 c1_i32_349
  let v658 : Index := Scalar.indexCast v657
  let c2_350 : Index := 2#32
  let c0_351 : Index := 0#32
  let c0_352 : Index := 0#32
  ![v658.toNat, 2, 0, 0]
def k0_off139 (i : grid0.Coords) : Fin 4 → Nat :=
  let c0_i32_380 : BitVec 32 := 0#32
  let arg1 : BitVec 32 := BitVec.ofNat 32 (i 1).val
  let v688 : BitVec 32 := Scalar.subi c0_i32_380 arg1
  let c1_i32_381 : BitVec 32 := 1#32
  let v689 : BitVec 32 := Scalar.addi v688 c1_i32_381
  let v690 : Index := Scalar.indexCast v689
  let c3_382 : Index := 3#32
  let c0_383 : Index := 0#32
  let c0_384 : Index := 0#32
  ![v690.toNat, 3, 0, 0]
def k0_off140 (i : grid0.Coords) : Fin 4 → Nat :=
  let c0_i32_412 : BitVec 32 := 0#32
  let arg1 : BitVec 32 := BitVec.ofNat 32 (i 1).val
  let v720 : BitVec 32 := Scalar.subi c0_i32_412 arg1
  let c1_i32_413 : BitVec 32 := 1#32
  let v721 : BitVec 32 := Scalar.addi v720 c1_i32_413
  let v722 : Index := Scalar.indexCast v721
  let c4_414 : Index := 4#32
  let c0_415 : Index := 0#32
  let c0_416 : Index := 0#32
  ![v722.toNat, 4, 0, 0]
def k0_off141 (i : grid0.Coords) : Fin 4 → Nat :=
  let c0_i32_444 : BitVec 32 := 0#32
  let arg1 : BitVec 32 := BitVec.ofNat 32 (i 1).val
  let v752 : BitVec 32 := Scalar.subi c0_i32_444 arg1
  let c1_i32_445 : BitVec 32 := 1#32
  let v753 : BitVec 32 := Scalar.addi v752 c1_i32_445
  let v754 : Index := Scalar.indexCast v753
  let c5_446 : Index := 5#32
  let c0_447 : Index := 0#32
  let c0_448 : Index := 0#32
  ![v754.toNat, 5, 0, 0]
def k0_off142 (i : grid0.Coords) : Fin 4 → Nat :=
  let c0_i32_476 : BitVec 32 := 0#32
  let arg1 : BitVec 32 := BitVec.ofNat 32 (i 1).val
  let v784 : BitVec 32 := Scalar.subi c0_i32_476 arg1
  let c1_i32_477 : BitVec 32 := 1#32
  let v785 : BitVec 32 := Scalar.addi v784 c1_i32_477
  let v786 : Index := Scalar.indexCast v785
  let c6_478 : Index := 6#32
  let c0_479 : Index := 0#32
  let c0_480 : Index := 0#32
  ![v786.toNat, 6, 0, 0]
def k0_off143 (i : grid0.Coords) : Fin 4 → Nat :=
  let c0_i32_508 : BitVec 32 := 0#32
  let arg1 : BitVec 32 := BitVec.ofNat 32 (i 1).val
  let v816 : BitVec 32 := Scalar.subi c0_i32_508 arg1
  let c1_i32_509 : BitVec 32 := 1#32
  let v817 : BitVec 32 := Scalar.addi v816 c1_i32_509
  let v818 : Index := Scalar.indexCast v817
  let c7_510 : Index := 7#32
  let c0_511 : Index := 0#32
  let c0_512 : Index := 0#32
  ![v818.toNat, 7, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelFfn.lean ====
abbrev S16x2048x1024 : Shape := ⟨3, ![16, 2048, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2816 : Shape := ⟨2, ![256, 2816]⟩

abbrev nBuf : Space → Nat
  | .hbm => 22
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S32768x1024, .f32⟩
  | .hbm, ⟨10, _⟩ => ⟨S1024x1024, .f32⟩
  | .hbm, ⟨11, _⟩ => ⟨S1024x1024, .bf16⟩
  | .hbm, ⟨12, _⟩ => ⟨S1024, .f32⟩
  | .hbm, ⟨13, _⟩ => ⟨S1x1024, .f32⟩
  | .hbm, ⟨14, _⟩ => ⟨S1024x2816, .f32⟩
  | .hbm, ⟨15, _⟩ => ⟨S1024x2816, .bf16⟩
  | .hbm, ⟨16, _⟩ => ⟨S1024x2816, .f32⟩
  | .hbm, ⟨17, _⟩ => ⟨S1024x2816, .bf16⟩
  | .hbm, ⟨18, _⟩ => ⟨S2816x1024, .f32⟩
  | .hbm, ⟨19, _⟩ => ⟨S2816x1024, .bf16⟩
  | .hbm, ⟨20, _⟩ => ⟨S1x1024, .f32⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFfnIdeal.lean ====
abbrev S16x2048x1024 : Shape := ⟨3, ![16, 2048, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S32768x2816 : Shape := ⟨2, ![32768, 2816]⟩
abbrev S2816x1024 : Shape := ⟨2, ![2816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S32768x1024, .f32⟩
  | .hbm, ⟨10, _⟩ => ⟨S32768x512, .f32⟩
  | .hbm, ⟨11, _⟩ => ⟨S32768x512, .f32⟩
  | .hbm, ⟨12, _⟩ => ⟨S32768x1024, .f32⟩
  | .hbm, ⟨13, _⟩ => ⟨S1024x1024, .f32⟩
  | .hbm, ⟨14, _⟩ => ⟨S32768x1024, .f32⟩
  | .hbm, ⟨15, _⟩ => ⟨S32768x1024, .f32⟩
  | .hbm, ⟨16, _⟩ => ⟨S1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S1024x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S_, .f32⟩
  | .hbm, ⟨38, _⟩ => ⟨S32768x2816, .f32⟩
  | .hbm, ⟨39, _⟩ => ⟨S32768x2816, .f32⟩
  | .hbm, ⟨40, _⟩ => ⟨S_, .f32⟩
  | .hbm, ⟨41, _⟩ => ⟨S32768x2816, .f32⟩
  | .hbm, ⟨42, _⟩ => ⟨S32768x2816, .f32⟩
  | .hbm, ⟨43, _⟩ => ⟨S32768x2816, .f32⟩
  | .hbm, ⟨44, _⟩ => ⟨S1024x2816, .f32⟩
  | .hbm, ⟨45, _⟩ => ⟨S32768x2816, .f32⟩
  | .hbm, ⟨46, _⟩ => ⟨S32768x2816, .f32⟩
  | .hbm, ⟨47, _⟩ => ⟨S2816x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== KernelProj.lean ====
abbrev S16x2048x1024 : Shape := ⟨3, ![16, 2048, 1024]⟩
abbrev S1x1024 : Shape := ⟨2, ![1, 1024]⟩
abbrev S1x1024x3384 : Shape := ⟨3, ![1, 1024, 3384]⟩
abbrev S32768x1024 : Shape := ⟨2, ![32768, 1024]⟩
abbrev S1024 : Shape := ⟨1, ![1024]⟩
abbrev S1024x3384 : Shape := ⟨2, ![1024, 3384]⟩
abbrev S1024x512 : Shape := ⟨2, ![1024, 512]⟩
abbrev S1024x256 : Shape := ⟨2, ![1024, 256]⟩
abbrev S1024x32 : Shape := ⟨2, ![1024, 32]⟩
abbrev S1024x8 : Shape := ⟨2, ![1024, 8]⟩
abbrev S1024x16 : Shape := ⟨2, ![1024, 16]⟩
abbrev S1024x40 : Shape := ⟨2, ![1024, 40]⟩
abbrev S_ : Shape := ⟨0, ![]⟩
abbrev S1024x128 : Shape := ⟨2, ![1024, 128]⟩
abbrev S1024x3072 : Shape := ⟨2, ![1024, 3072]⟩
abbrev S512x1024 : Shape := ⟨2, ![512, 1024]⟩
abbrev S640x32768 : Shape := ⟨2, ![640, 32768]⟩
abbrev S32768x384 : Shape := ⟨2, ![32768, 384]⟩
abbrev S32768x1664 : Shape := ⟨2, ![32768, 1664]⟩
abbrev S640x512 : Shape := ⟨2, ![640, 512]⟩
abbrev S512x384 : Shape := ⟨2, ![512, 384]⟩
abbrev S512x1664 : Shape := ⟨2, ![512, 1664]⟩
abbrev S512 : Shape := ⟨1, ![512]⟩
abbrev S512x1 : Shape := ⟨2, ![512, 1]⟩
abbrev S512x512 : Shape := ⟨2, ![512, 512]⟩
abbrev S16x512 : Shape := ⟨2, ![16, 512]⟩
abbrev S64x512 : Shape := ⟨2, ![64, 512]⟩
abbrev S1024x384 : Shape := ⟨2, ![1024, 384]⟩
abbrev S1024x1664 : Shape := ⟨2, ![1024, 1664]⟩

abbrev nBuf : Space → Nat
  | .hbm => 33
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3384, .f32⟩
  | .hbm, ⟨3, _⟩ => ⟨S32768x1024, .f32⟩
  | .hbm, ⟨4, _⟩ => ⟨S1024, .f32⟩
  | .hbm, ⟨5, _⟩ => ⟨S1x1024, .f32⟩
  | .hbm, ⟨6, _⟩ => ⟨S1024x3384, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x256, .f32⟩
  | .hbm, ⟨11, _⟩ => ⟨S1024x32, .f32⟩
  | .hbm, ⟨12, _⟩ => ⟨S1024x8, .f32⟩
  | .hbm, ⟨13, _⟩ => ⟨S1024x256, .f32⟩
  | .hbm, ⟨14, _⟩ => ⟨S1024x256, .f32⟩
  | .hbm, ⟨15, _⟩ => ⟨S1024x512, .f32⟩
  | .hbm, ⟨16, _⟩ => ⟨S1024x16, .f32⟩
  | .hbm, ⟨17, _⟩ => ⟨S1024x512, .f32⟩
  | .hbm, ⟨18, _⟩ => ⟨S1024x40, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x3072, .f32⟩
  | .hbm, ⟨26, _⟩ => ⟨S1024x3072, .bf16⟩
  | .hbm, ⟨27, _⟩ => ⟨S512x1024, .f32⟩
  | .hbm, ⟨28, _⟩ => ⟨S512x1024, .bf16⟩
  | .hbm, ⟨29, _⟩ => ⟨S32768x1024, .bf16⟩
  | .hbm, ⟨30, _⟩ => ⟨S640x32768, .bf16⟩
  | .hbm, ⟨31, _⟩ => ⟨S32768x384, .f32⟩
  | .hbm, ⟨32, _⟩ => ⟨S32768x1664, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S640x512, .bf16⟩
  | .local _ .vmem, ⟨8, _⟩ => ⟨S640x512, .bf16⟩
  | .local _ .vmem, ⟨9, _⟩ => ⟨S512x384, .f32⟩
  | .local _ .vmem, ⟨10, _⟩ => ⟨S512x384, .f32⟩
  | .local _ .vmem, ⟨11, _⟩ => ⟨S512x1664, .f32⟩
  | .local _ .vmem, ⟨12, _⟩ => ⟨S512x1664, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_v16 : Ref sig .tc := ⟨.hbm, 21, rfl⟩
abbrev main_c_0 : Ref sig .tc := ⟨.hbm, 22, rfl⟩
abbrev main_call1_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceProjIdeal.lean ====
abbrev S16x2048x1024 : Shape := ⟨3, ![16, 2048, 1024]⟩
abbrev S1x1024 : Shape := ⟨2, ![1, 1024]⟩
abbrev S1x1024x3384 : Shape := ⟨3, ![1, 1024, 3384]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3384 : Shape := ⟨2, ![1024, 3384]⟩
abbrev S32768x3384 : Shape := ⟨2, ![32768, 3384]⟩
abbrev S32768x512 : Shape := ⟨2, ![32768, 512]⟩
abbrev S32768x256 : Shape := ⟨2, ![32768, 256]⟩
abbrev S32768x32 : Shape := ⟨2, ![32768, 32]⟩
abbrev S32768x8 : Shape := ⟨2, ![32768, 8]⟩
abbrev S32768x16 : Shape := ⟨2, ![32768, 16]⟩
abbrev S32768x8x64 : Shape := ⟨3, ![32768, 8, 64]⟩
abbrev S32768x8x16 : Shape := ⟨3, ![32768, 8, 16]⟩
abbrev S32768x8x80 : Shape := ⟨3, ![32768, 8, 80]⟩
abbrev S32768x640 : Shape := ⟨2, ![32768, 640]⟩
abbrev S640x32768 : Shape := ⟨2, ![640, 32768]⟩
abbrev S32768x88 : Shape := ⟨2, ![32768, 88]⟩
abbrev S32768x384 : Shape := ⟨2, ![32768, 384]⟩
abbrev S32768x112 : Shape := ⟨2, ![32768, 112]⟩
abbrev S32768x1664 : Shape := ⟨2, ![32768, 1664]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3384, .f32⟩
  | .hbm, ⟨3, _⟩ => ⟨S32768x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x3384, .f32⟩
  | .hbm, ⟨22, _⟩ => ⟨S32768x3384, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x256, .f32⟩
  | .hbm, ⟨27, _⟩ => ⟨S32768x32, .f32⟩
  | .hbm, ⟨28, _⟩ => ⟨S32768x8, .f32⟩
  | .hbm, ⟨29, _⟩ => ⟨S32768x256, .f32⟩
  | .hbm, ⟨30, _⟩ => ⟨S32768x256, .f32⟩
  | .hbm, ⟨31, _⟩ => ⟨S32768x512, .f32⟩
  | .hbm, ⟨32, _⟩ => ⟨S32768x16, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S32768x1024, .f32⟩
  | .hbm, ⟨38, _⟩ => ⟨S32768x8x64, .f32⟩
  | .hbm, ⟨39, _⟩ => ⟨S_, .f32⟩
  | .hbm, ⟨40, _⟩ => ⟨S32768x8x16, .f32⟩
  | .hbm, ⟨41, _⟩ => ⟨S32768x8x80, .f32⟩
  | .hbm, ⟨42, _⟩ => ⟨S32768x640, .f32⟩
  | .hbm, ⟨43, _⟩ => ⟨S640x32768, .f32⟩
  | .hbm, ⟨44, _⟩ => ⟨S_, .f32⟩
  | .hbm, ⟨45, _⟩ => ⟨S32768x88, .f32⟩
  | .hbm, ⟨46, _⟩ => ⟨S32768x384, .f32⟩
  | .hbm, ⟨47, _⟩ => ⟨S_, .f32⟩
  | .hbm, ⟨48, _⟩ => ⟨S32768x112, .f32⟩
  | .hbm, ⟨49, _⟩ => ⟨S32768x1664, .f32⟩
  | .hbm, ⟨50, _⟩ => ⟨S32768x1024, .bf16⟩
  | .hbm, ⟨51, _⟩ => ⟨S640x32768, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Proof.Keeps.lean ====
/-
  A kernel body that keeps a resource. A body that runs on some memrefs is `Keeps` for a resource `I` when, from
  `I`, it runs to its return and gives `I` back, whatever it reads, computes and stores on the way. `I` holds each of the
  memrefs at contents it does not name (`Held`), so that it survives every load, every store, both branches of every
  condition and every trip of a loop: the rules below follow the program's shape alone.
-/
module

public import Idealize.ShloMosaic.Lib.Pipeline.FrameBody
public import Idealize.ShloMosaic.Lib.Tactic

@[expose] public section

noncomputable section

namespace Cert.Proof.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U] {Λ : Labels}

section Rules

variable (defs : Defs nD τ sig Val Λ) (c : Dev nD) (I : sProp (MT nD τ sig Unit Val ℕ U ℕ))

/-- From `I` the program runs to its return, and `I` holds again there. -/
@[irreducible] def Keeps {α : Type} (p : Prog (TpuEff nD τ sig Val Λ .tc) α) : Prop :=
  I ⊢ (wp frame (wpE (Ix := Unit) (Name := ℕ) (U := U) (Lvl := ℕ) defs Variants.none (c.tc : Thread nD τ) none) Set.univ p (fun _ => I) : sProp (MT nD τ sig Unit Val ℕ U ℕ))

/-- `I` lends the memref's elements, held at some contents, and takes them back at any. -/
@[irreducible] def Held {sp : Space} {s : Shape} {e : EltTy} (m : Memref sig .tc sp s e) : Prop :=
  I ⊢ iprop(∃ f : Buf Val (m.view.loc (c.tc : Thread nD τ)),
    (m.view.loc (c.tc : Thread nD τ) ↦[m.view.set]{fullShare} f : sProp (MT nD τ sig Unit Val ℕ U ℕ))
      ∗ (∀ f' : Buf Val (m.view.loc (c.tc : Thread nD τ)),
          (m.view.loc (c.tc : Thread nD τ) ↦[m.view.set]{fullShare} f' : sProp (MT nD τ sig Unit Val ℕ U ℕ)) -∗ I))

variable {defs c I}

theorem Keeps.pure {α : Type} (a : α) : Keeps defs c I (Pure.pure a) := by
  unfold Keeps
  rw [wp_pure]
  iintro H
  imodintro
  iexact H

theorem Keeps.bind {α β : Type} {p : Prog (TpuEff nD τ sig Val Λ .tc) α} {k : α → Prog (TpuEff nD τ sig Val Λ .tc) β}
    (hp : Keeps defs c I p) (hk : ∀ a, Keeps defs c I (k a)) : Keeps defs c I (p >>= k) := by
  unfold Keeps
  rw [wp_bind]
  unfold Keeps at hp hk
  exact hp.trans (wp_mono _ _ _ hk)

theorem Keeps.ite {α : Type} {P : Prop} [Decidable P] {p q : Prog (TpuEff nD τ sig Val Λ .tc) α}
    (hp : Keeps defs c I p) (hq : Keeps defs c I q) : Keeps defs c I (if P then p else q) := by
  split
  · exact hp
  · exact hq

theorem Keeps.dite {α : Type} {P : Prop} [Decidable P] {p : P → Prog (TpuEff nD τ sig Val Λ .tc) α}
    {q : ¬P → Prog (TpuEff nD τ sig Val Λ .tc) α} (hp : ∀ h, Keeps defs c I (p h)) (hq : ∀ h, Keeps defs c I (q h)) :
    Keeps defs c I (if h : P then p h else q h) := by
  split
  · exact hp _
  · exact hq _

/-- A counted loop is safe when one trip of its region is, whatever it carries. -/
theorem Keeps.loop {w : Nat} {σ : Type} (l : Scf.Loop w) (hok : l.OK) (init : σ)
    {body : Fin l.trips → σ → Prog (TpuEff nD τ sig Val Λ .tc) σ} (h : ∀ k acc, Keeps defs c I (body k acc)) :
    Keeps defs c I (Scf.Loop.for l hok init body) := by
  unfold Keeps at h ⊢
  unfold Scf.Loop.for
  refine .trans ?_ (Scf.wp_for frame (wpE defs Variants.none (c.tc : Thread nD τ) none) Set.univ l.lb l.ub l.st hok init body
    (fun _ _ => I) h)
  iintro H
  isplitl [H]
  · iexact H
  iintro %acc H
  iexact H

theorem Keeps.load {sp : CoreSpace} {s : Shape} {e : EltTy} {m : Memref sig .tc sp s e} {r : Rect s}
    {hl : m.view.LoadsAt r.toLoadRect} (hm : Held c I m) : Keeps defs c I (Prog.lift (.load m r.toLoadRect hl)) := by
  unfold Keeps
  unfold Held at hm
  refine hm.trans ?_
  iintro ⟨%f, H, Hk⟩
  iapply (wp_load_rect Variants.none (c.tc : Thread nD τ) none Set.univ (m := m) (r := r) (hl := hl) (k := fun x => .ret x)
    (S := m.view.set) (m.view.set_slice_subset r)) $$ H
  iintro H
  rw [wp_ret]
  imodintro
  iapply Hk
  iexact H

theorem Keeps.store {sp : CoreSpace} {s : Shape} {e : EltTy} {m : Memref sig .tc sp s e} {r : Rect s}
    {w : r.shape.Idx → Val e} {Mk : Finset r.shape.Idx} {hx : (m.access r).Stores Mk}
    {hu : Mk = Finset.univ ∨ ∀ a, r.stride a = 1} (hm : Held c I m) :
    Keeps defs c I (Prog.lift (.store m r w Mk hx hu)) := by
  unfold Keeps
  unfold Held at hm
  refine hm.trans ?_
  iintro ⟨%f, H, Hk⟩
  iapply (wp_store Variants.none (c.tc : Thread nD τ) none Set.univ (m := m) (r := r) (w := w) (Mk := Mk) (hx := hx) (hm := hu)
    (k := fun x => .ret x) (S := m.view.set)
    (((m.access r).setOn_subset_set Mk).trans (m.view.set_slice_subset r))) $$ H
  iintro H
  rw [wp_ret]
  imodintro
  iapply Hk
  iexact H

end Rules

end Cert.Proof.Body

end
-- ==== Proof.Parts.lean ====
/-
  A part of a kernel's body as a text over its arguments, and what it means that it keeps a resource: it does at every
  value of its arguments, whenever the resource lends each of the memrefs among them.
-/
module

public import proofs.«01_k».proof.KernelIdeal
public import proofs.«01_k».proof.Proof.Keeps

@[expose] public section

noncomputable section

namespace Cert.Proof.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

/-- The resource a body keeps, together with the core and the body table it runs with. -/
structure Kept (nD : Nat) (τ : Topo) (sig : RefSig) (Val : EltTy → Type) (U : Type) [URA U] (Λ : Labels) where
  defs : Defs nD τ sig Val Λ
  core : Dev nD
  res : sProp (MT nD τ sig Unit Val ℕ U ℕ)

/-- A text of type `T` keeps `K`. -/
class Text (K : Kept nD τ sig Val U Λ) (T : Type 1) where
  keeps : T → Prop

variable {K : Kept nD τ sig Val U Λ}

instance Text.prog {α : Type} : Text K (Prog (TpuEff nD τ sig Val Λ .tc) α) := ⟨fun p => Keeps K.defs K.core K.res p⟩

instance Text.arg {A : Type} {B : Type 1} [Text K B] : Text K (A → B) := ⟨fun p => ∀ a, Text.keeps K (p a)⟩

instance Text.fact {A : Prop} {B : Type 1} [Text K B] : Text K (A → B) := ⟨fun p => ∀ a, Text.keeps K (p a)⟩

instance (priority := low) Text.argOf {A : Type} {B : A → Type 1} [∀ a, Text K (B a)] : Text K (∀ a, B a) :=
  ⟨fun p => ∀ a, Text.keeps K (p a)⟩

section Part

open Cert.KernelIdeal

variable [Facts] {F : FTy → Type}

/-- A part of the sparse attention's body: its point and its memrefs, then the values it goes on from. It keeps `K` when
    it does wherever `K`'s resource lends every one of the memrefs. -/
def PartKeeps (K : Kept nD τ sig (Elt F) U Λ₀) {T : grid0.Coords → Type 1} [∀ i, Text K (T i)] (p : ∀ (i : grid0.Coords)
    (arg2 : Memref sig .tc .vmem S256x512 .bf16) (harg2 : arg2.IsWhole)
    (arg3 : Memref sig .tc .vmem S2048x512 .bf16) (harg3 : arg3.IsWhole)
    (arg4 : Memref sig .tc .vmem S640x2048 .bf16) (harg4 : arg4.IsWhole)
    (arg5 : Memref sig .tc .vmem S256x256 .f32) (harg5 : arg5.IsWhole)
    (arg6 : Memref sig .tc .vmem S256x128 .f32) (harg6 : arg6.IsWhole)
    (arg7 : Memref sig .tc .vmem S2048x128 .f32) (harg7 : arg7.IsWhole)
    (arg8 : Memref sig .tc .vmem S2x8x256x256 .f32) (harg8 : arg8.IsWhole)
    (arg9 : Memref sig .tc .vmem S256x512 .bf16) (harg9 : arg9.IsWhole)
    (arg10 : Memref sig .tc .vmem S8x256x256 .bf16) (harg10 : arg10.IsWhole)
    (arg11 : Memref sig .tc .vmem S8x256x128 .bf16) (harg11 : arg11.IsWhole)
    (arg12 : Memref sig .tc .vmem S2048x256 .bf16) (harg12 : arg12.IsWhole)
    (arg13 : Memref sig .tc .vmem S2048x256 .f32) (harg13 : arg13.IsWhole)
    (arg14 : Memref sig .tc .vmem S2048x256 .bf16) (harg14 : arg14.IsWhole)
    (arg15 : Memref sig .tc .vmem S2048x256 .f32) (harg15 : arg15.IsWhole)
    (arg16 : Memref sig .tc .vmem S8x8x256 .f32) (harg16 : arg16.IsWhole)
    (arg17 : Memref sig .tc .vmem S8x80x256 .f32) (harg17 : arg17.IsWhole)
    (arg18 : Memref sig .tc .vmem S2x8x256x256 .f32) (harg18 : arg18.IsWhole)
    (arg19 : Memref sig .tc .vmem S2x8x8x256 .f32) (harg19 : arg19.IsWhole)
    (arg20 : Memref sig .tc .vmem S2x8x8x256 .f32) (harg20 : arg20.IsWhole), T i) : Prop :=
  ∀ (i : grid0.Coords)
    (arg2 : Memref sig .tc .vmem S256x512 .bf16) (harg2 : arg2.IsWhole) (l2 : Held K.core K.res arg2)
    (arg3 : Memref sig .tc .vmem S2048x512 .bf16) (harg3 : arg3.IsWhole) (l3 : Held K.core K.res arg3)
    (arg4 : Memref sig .tc .vmem S640x2048 .bf16) (harg4 : arg4.IsWhole) (l4 : Held K.core K.res arg4)
    (arg5 : Memref sig .tc .vmem S256x256 .f32) (harg5 : arg5.IsWhole) (l5 : Held K.core K.res arg5)
    (arg6 : Memref sig .tc .vmem S256x128 .f32) (harg6 : arg6.IsWhole) (l6 : Held K.core K.res arg6)
    (arg7 : Memref sig .tc .vmem S2048x128 .f32) (harg7 : arg7.IsWhole) (l7 : Held K.core K.res arg7)
    (arg8 : Memref sig .tc .vmem S2x8x256x256 .f32) (harg8 : arg8.IsWhole) (l8 : Held K.core K.res arg8)
    (arg9 : Memref sig .tc .vmem S256x512 .bf16) (harg9 : arg9.IsWhole) (l9 : Held K.core K.res arg9)
    (arg10 : Memref sig .tc .vmem S8x256x256 .bf16) (harg10 : arg10.IsWhole) (l10 : Held K.core K.res arg10)
    (arg11 : Memref sig .tc .vmem S8x256x128 .bf16) (harg11 : arg11.IsWhole) (l11 : Held K.core K.res arg11)
    (arg12 : Memref sig .tc .vmem S2048x256 .bf16) (harg12 : arg12.IsWhole) (l12 : Held K.core K.res arg12)
    (arg13 : Memref sig .tc .vmem S2048x256 .f32) (harg13 : arg13.IsWhole) (l13 : Held K.core K.res arg13)
    (arg14 : Memref sig .tc .vmem S2048x256 .bf16) (harg14 : arg14.IsWhole) (l14 : Held K.core K.res arg14)
    (arg15 : Memref sig .tc .vmem S2048x256 .f32) (harg15 : arg15.IsWhole) (l15 : Held K.core K.res arg15)
    (arg16 : Memref sig .tc .vmem S8x8x256 .f32) (harg16 : arg16.IsWhole) (l16 : Held K.core K.res arg16)
    (arg17 : Memref sig .tc .vmem S8x80x256 .f32) (harg17 : arg17.IsWhole) (l17 : Held K.core K.res arg17)
    (arg18 : Memref sig .tc .vmem S2x8x256x256 .f32) (harg18 : arg18.IsWhole) (l18 : Held K.core K.res arg18)
    (arg19 : Memref sig .tc .vmem S2x8x8x256 .f32) (harg19 : arg19.IsWhole) (l19 : Held K.core K.res arg19)
    (arg20 : Memref sig .tc .vmem S2x8x8x256 .f32) (harg20 : arg20.IsWhole) (l20 : Held K.core K.res arg20),
    Text.keeps K (p i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)

end Part

end Cert.Proof.Body

end
-- ==== Proof.Body.lean ====
/-
  The sparse attention's body keeps any resource that lends it its memrefs: no load and no store of it, in any branch of
  its conditions and at any trip of its loops, asks for more.
-/
module

public import proofs.«01_k».proof.Proof.Parts

@[expose] public section

noncomputable section

namespace Cert.Proof.Body

open Cert.KernelIdeal
open Idealize.ShloMosaic Idealize.ShloMosaic.TcCoe Idealize.ShloMosaic.Tactic
open Idealize.SL Idealize.SL.RA Idealize.SL.BI Idealize.SL.Sem

variable [Facts] {F : FTy → Type} [FloatOps F] {U : Type} [URA U] (K : Kept nD τ sig (Elt F) U Λ₀)

set_option maxHeartbeats 40000000 in
/-- The whole body, its parts opened where they are called. -/
theorem body_keeps : PartKeeps K (cc0_dsa (F := F)) := by
  repeat intro _
  change Keeps K.defs K.core K.res _
  delta cc0_dsa
  repeat' first
    | with_reducible apply Keeps.bind
    | with_reducible apply Keeps.load
    | with_reducible apply Keeps.store
    | with_reducible apply Keeps.pure
    | with_reducible apply Keeps.ite
    | with_reducible apply Keeps.dite
    | with_reducible apply Keeps.loop
    | assumption
    | rintro ⟨⟩
    | intro _
    | delta k0_part1
          k0_part2 k0_part3 k0_part4 k0_part5 k0_part6 k0_part7 k0_part8 k0_part9 k0_part10 k0_part11 k0_part12
          k0_part13 k0_part14 k0_part15 k0_part16 k0_part17 k0_part18 k0_part19 k0_part20 k0_part21 k0_part22
          k0_part23 k0_part24 k0_part25 k0_part26 k0_part27 k0_part28 k0_part29 k0_part30 k0_part31 k0_part32
          k0_part33 k0_part34 k0_part35 k0_part36 k0_part37 k0_part38 k0_part39 k0_part40 k0_part41 k0_part42
          k0_part43 k0_part44 k0_part45 k0_part46 k0_part47 k0_part48 k0_part49 k0_part50 k0_part51 k0_part52
          k0_part53 k0_part54 k0_part55 k0_part56 k0_part57 k0_part58 k0_part59 k0_part60 k0_part61 k0_part62
          k0_part63 k0_part64 k0_part65 k0_part66 k0_part67 k0_part68 k0_part69 k0_part70 k0_part71 k0_part72
          k0_part73 k0_part74 k0_part75 k0_part76 k0_part77 k0_part78 k0_part79 k0_part80 k0_part81 k0_part82
          k0_part83 k0_part84 k0_part85 k0_part86 k0_part87 k0_part88 k0_part89 k0_part90 k0_part91 k0_part92
          k0_part93 k0_part94 k0_part95 k0_part96 k0_part97 k0_part98 k0_part99 k0_part100 k0_part101 k0_part102
          k0_part103 k0_part104 k0_part105 k0_part106 k0_part107 k0_part108 k0_part109 k0_part110 k0_part111
          k0_part112 k0_part113 k0_part114 k0_part115 k0_part116 k0_part117 k0_part118 k0_part119 k0_part120
          k0_part121 k0_part122 k0_part123 k0_part124 k0_part125 k0_part126 k0_part127 k0_part128 k0_part129
          k0_part130 k0_part131 k0_part132 k0_part133 k0_part134 k0_part135 k0_part136 k0_part137 k0_part138
          k0_part139 k0_part140 k0_part141 k0_part142 k0_part143 k0_part144 k0_part145 k0_part146 k0_part147
          k0_part148 k0_part149 k0_part150 k0_part151 k0_part152 k0_part153 k0_part154 k0_part155 k0_part156
          k0_part157 k0_part158 k0_part159 k0_part160 k0_part161 k0_part162 k0_part163 k0_part164 k0_part165
          k0_part166 k0_part167 k0_part168 k0_part169 k0_part170 k0_part171 k0_part172 k0_part173 k0_part174
          k0_part175 k0_part176 k0_part177 k0_part178 k0_part179 k0_part180 k0_part181 k0_part182 k0_part183
          k0_part184 k0_part185

end Cert.Proof.Body

end
-- ==== Proof.Run.lean ====
/-
  The sparse attention's run: from any memory with zero counters it terminates without fault, its argument arrays end
  unchanged and every counter is zero again. Of the staging buffers and of the scratch the run remembers only that they
  are owned, at contents it does not name.
-/
module

public import proofs.«01_k».proof.Proof.Body
public import proofs.«01_k».proof.Proof.Gen.KernelIdeal.Frame

@[expose] public section

noncomputable section

namespace Cert.Proof.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## What lends a memref -/

section Lend

variable {nD : Nat} {τ : Topo} {sig : RefSig} {Val : EltTy → Type} {U : Type} [URA U]
variable {c : Dev nD} {I J : sProp (MT nD τ sig Unit Val ℕ U ℕ)}
variable {sp : Space} {s : Shape} {e : EltTy} {m : Memref sig .tc sp s e}

theorem Held.left (h : Held c I m) : Held c iprop(I ∗ J) m := by
  unfold Held at h ⊢
  iintro ⟨HI, HJ⟩
  icases h $$ HI with ⟨%f, H, Hk⟩
  iexists f
  isplitl [H]
  · iexact H
  iintro %f' H
  isplitl [H Hk]
  · iapply Hk; iexact H
  iexact HJ

theorem Held.right (h : Held c J m) : Held c iprop(I ∗ J) m := by
  unfold Held at h ⊢
  iintro ⟨HI, HJ⟩
  icases h $$ HJ with ⟨%f, H, Hk⟩
  iexists f
  isplitl [H]
  · iexact H
  iintro %f' H
  isplitl [HI]
  · iexact HI
  iapply Hk; iexact H

/-- A memref owned at some contents lends itself. -/
theorem Held.owned : Held c (iprop(∃ X, owns (c.tc : Thread nD τ) m fullShare X) : sProp (MT nD τ sig Unit Val ℕ U ℕ)) m := by
  unfold Held owns
  iintro ⟨%X, %f, %h, H⟩
  iexists f
  isplitl [H]
  · iexact H
  iintro %f' H
  iexists _, f'
  isplitr
  · ipureintro; rfl
  iexact H

end Lend

/-! ## The body at a point -/

section Point

open Cert.KernelIdeal Cert.KernelIdeal.Gen
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as launched, nothing remembered of what the body leaves. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- Everything the body is handed at point `t`, at contents that are not named: the eight staging buffers, the eleven
    scratch buffers, then what it does not touch. -/
def handed (c : Dev nD) (t : Fin cfg0.N) (rest : sProp 𝕄) : sProp 𝕄 :=
  iprop((∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X)
    ∗ (∃ X, owns (c : Thread nD τ) (st0_4 t) fullShare X) ∗ (∃ X, owns (c : Thread nD τ) (st0_5 t) fullShare X)
    ∗ (∃ X, owns (c : Thread nD τ) (st0_6 t) fullShare X) ∗ (∃ X, owns (c : Thread nD τ) (st0_7 t) fullShare X)
    ∗ (∃ X, owns (c : Thread nD τ) (Memref.whole cc0_scratch0) fullShare X)
    ∗ (∃ X, owns (c : Thread nD τ) (Memref.whole cc0_scratch1) fullShare X)
    ∗ (∃ X, owns (c : Thread nD τ) (Memref.whole cc0_scratch2) fullShare X)
    ∗ (∃ X, owns (c : Thread nD τ) (Memref.whole cc0_scratch3) fullShare X)
    ∗ (∃ X, owns (c : Thread nD τ) (Memref.whole cc0_scratch4) fullShare X)
    ∗ (∃ X, owns (c : Thread nD τ) (Memref.whole cc0_scratch5) fullShare X)
    ∗ (∃ X, owns (c : Thread nD τ) (Memref.whole cc0_scratch6) fullShare X)
    ∗ (∃ X, owns (c : Thread nD τ) (Memref.whole cc0_scratch7) fullShare X)
    ∗ (∃ X, owns (c : Thread nD τ) (Memref.whole cc0_scratch8) fullShare X)
    ∗ (∃ X, owns (c : Thread nD τ) (Memref.whole cc0_scratch9) fullShare X)
    ∗ (∃ X, owns (c : Thread nD τ) (Memref.whole cc0_scratch10) fullShare X) ∗ rest)

/-- The body at a point keeps what it is handed. -/
theorem point_keeps (c : Dev nD) (t : Fin cfg0.N) (rest : sProp 𝕄) :
    Keeps (defs₀ (F := F)) c (handed c t rest) (bodyAt0 t) := by
  unfold bodyAt0
  refine body_keeps (F := F) ⟨defs₀, c, handed c t rest⟩ (grid0.coords t)
    _ _ ?_ _ _ ?_ _ _ ?_ _ _ ?_ _ _ ?_ _ _ ?_ _ _ ?_ _ _ ?_ _ _ ?_ _ _ ?_ _ _ ?_ _ _ ?_ _ _ ?_ _ _ ?_ _ _ ?_ _ _ ?_
    _ _ ?_ _ _ ?_ _ _ ?_ <;>
  · dsimp only
    unfold handed
    repeat' first
      | exact Held.left Held.owned
      | apply Held.right

/-- What the pipeline hands the body is what `handed` lists, with the core's register and its dues beside it. -/
theorem handed_of (c : Dev nD) (t : Fin cfg0.N) (Y : (w : Fin cfg0.W) → (cfg0.win w).block.Idx → Elt F (cfg0.win w).elt)
    (D : sProp 𝕄) :
    iprop(Pipeline.ΦA spec0 c ∗ D ∗ bigSep Finset.univ fun w => owns (c : Thread nD τ) ((cfg0.win w).stage (cfg0.slots t w)) fullShare (Y w))
      ⊢ handed c t iprop((∃ r, prngReg c r) ∗ D) := by
  unfold Pipeline.ΦA handed
  rw [scopedRest0_eq, bigSep_W0]
  simp only [owns_whole]
  iintro ⟨⟨⟨S0, S1, S2, S3, S4, S5, S6, S7, S8, S9, S10⟩, Hg⟩, HD, H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [Hg]; · iexact Hg
  iexact HD

/-- And it is given back as the pipeline takes it. -/
theorem handed_back (c : Dev nD) (t : Fin cfg0.N) (D : sProp 𝕄) :
    handed c t iprop((∃ r, prngReg c r) ∗ D)
      ⊢ (iprop(Pipeline.ΦA spec0 c ∗ D ∗ bigSep Finset.univ fun w =>
          iprop(∃ X, ⌜True⌝ ∗ owns (c : Thread nD τ) ((cfg0.win w).stage (cfg0.slots t w)) fullShare X)) : sProp 𝕄) := by
  unfold Pipeline.ΦA handed
  rw [scopedRest0_eq, bigSep_W0]
  simp only [owns_whole]
  iintro ⟨⟨%X0, H0⟩, ⟨%X1, H1⟩, ⟨%X2, H2⟩, ⟨%X3, H3⟩, ⟨%X4, H4⟩, ⟨%X5, H5⟩, ⟨%X6, H6⟩, ⟨%X7, H7⟩,
    S0, S1, S2, S3, S4, S5, S6, S7, S8, S9, S10, Hg, HD⟩
  isplitl [S0 S1 S2 S3 S4 S5 S6 S7 S8 S9 S10 Hg]
  · isplitr [Hg]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [HD]; · iexact HD
  isplitl [H0]; · iexists X0; isplitr; · ipureintro; trivial
                  iexact H0
  isplitl [H1]; · iexists X1; isplitr; · ipureintro; trivial
                  iexact H1
  isplitl [H2]; · iexists X2; isplitr; · ipureintro; trivial
                  iexact H2
  isplitl [H3]; · iexists X3; isplitr; · ipureintro; trivial
                  iexact H3
  isplitl [H4]; · iexists X4; isplitr; · ipureintro; trivial
                  iexact H4
  isplitl [H5]; · iexists X5; isplitr; · ipureintro; trivial
                  iexact H5
  isplitl [H6]; · iexists X6; isplitr; · ipureintro; trivial
                  iexact H6
  iexists X7; isplitr; · ipureintro; trivial
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := by
  intro t Y _
  rw [defs₀_row]
  have h := point_keeps (F := F) c t iprop((∃ r, prngReg c r) ∗ (rdat m c).owesAt () t.castSucc)
  unfold Keeps at h
  exact ((handed_of c t Y _).trans h).trans (wp_mono _ _ _ fun _ => handed_back c t _)

/-! ## The launch -/

/-- The run: every weakly fair execution terminates without fault, each argument array ends as launched, and every
    counter reads zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  RDat.θ_run_frame_track_shared cfgs 0 launch₀0 defs₀ Variants.none (rdat m) m ρ main (body_obligation m)
    (fun _ _ _ => rfl) (fun _ _ => rfl) (V m) (hmain m Variants.none) (fun _ _ => rfl) (fun _ => .rfl) (fun _ => .rfl)
    (Q' := _) (hQ' := fun _ ⟨h, hs⟩ => ⟨fun c => ⟨RDat.FramePost.arr_in h c 1 rfl, RDat.FramePost.arr_in h c 2 rfl,
      RDat.FramePost.arr_in h c 5 rfl, RDat.FramePost.arr_in h c 6 rfl⟩, hs⟩)

end Point

end Cert.Proof.Body

end
-- ==== Proof.Ffn.lean ====
/-
  The output projection, the channel mixer and the final norm, row by row: `full` is one row of the result as a function
  of the row's inputs and of the weights, and each half of the kernel's block computes it.
-/
module

public import proofs.«01_k».proof.Proof.Gen.KernelFfnIdeal.Value
public import proofs.«01_k».proof.Proof.Gen.ReferenceFfnIdeal.Run
public import Idealize.ShloMosaic.Lib.Pointwise
public import Idealize.ShloMosaic.Lib.Pipeline.ValueKit

@[expose] public section

set_option maxRecDepth 16384

noncomputable section

namespace Cert.Proof.Ffn

open Idealize.ShloMosaic

/-! ## One row of the result -/

/-- The residual row plus the two mixers' rows, side by side, through the output projection. -/
def mix (x : Fin 1024 → EReal) (oa ob : Fin 512 → EReal) (wo : Fin 1024 → Fin 1024 → EReal) (j : Fin 1024) : EReal :=
  x j + (∑ k : Fin 512, oa k * wo ⟨k, by omega⟩ j + ∑ k : Fin 512, ob k * wo ⟨512 + k, by omega⟩ j)

/-- The root-mean-square norm of a row. -/
def rms (v g : Fin 1024 → EReal) (j : Fin 1024) : EReal :=
  v j * Ideal.rsqrt (Ideal.div (∑ k, v k * v k) (Ideal.ofBits .f32 0x44800000#32) + Ideal.ofBits .f32 0x358637BD#32) * g j

/-- The row plus its gated channel mixer, of the normed row `h`. -/
def mlp (v h : Fin 1024 → EReal) (wg wu : Fin 1024 → Fin 2816 → EReal) (wd : Fin 2816 → Fin 1024 → EReal) (j : Fin 1024) : EReal :=
  v j + ∑ l, (∑ k, h k * wg k l) * Ideal.logistic (∑ k, h k * wg k l) * (∑ k, h k * wu k l) * wd l j

/-- One row of the result. -/
def full (x : Fin 1024 → EReal) (oa ob : Fin 512 → EReal) (wo : Fin 1024 → Fin 1024 → EReal) (nf : Fin 1024 → EReal)
    (wg wu : Fin 1024 → Fin 2816 → EReal) (wd : Fin 2816 → Fin 1024 → EReal) (nl : Fin 1024 → EReal) : Fin 1024 → EReal :=
  rms (mlp (mix x oa ob wo) (rms (mix x oa ob wo) nf) wg wu wd) nl

/-! ## The payloads, row by row -/

section Kernel

open Cert.KernelFfnIdeal Cert.KernelFfnIdeal.Gen

section Payloads

variable (r : Fin 256) (j : Fin 1024)

theorem pay3_row (v0 : Vec Ideal S256x1024 .f32) (v2 v3 : Vec Ideal S256x512 .bf16) (v5 : Vec Ideal S1024x1024 .bf16) :
    k0_pay3 v0 v2 v3 v5 (ix2 r j) = mix (fun j => v0 (ix2 r j)) (fun k => v2 (ix2 r k)) (fun k => v3 (ix2 r k)) (fun k j => v5 (ix2 k j)) j := by
  pointwise [k0_pay3, mix]

theorem pay4_row (v0 : Vec Ideal S256x1024 .f32) (v2 v3 : Vec Ideal S256x512 .bf16) (v5 : Vec Ideal S1024x1024 .bf16) :
    k0_pay4 v0 v2 v3 v5 (ix2 r j) = mix (fun j => v0 (ix2 r j)) (fun k => v2 (ix2 r k)) (fun k => v3 (ix2 r k)) (fun k j => v5 (ix2 k j)) j := by
  pointwise [k0_pay4, mix]

theorem pay5_row (v0 : Vec Ideal S256x1024 .f32) (v2 v3 : Vec Ideal S256x512 .bf16) (v5 : Vec Ideal S1024x1024 .bf16)
    (v18 : Vec Ideal S1x1024 .f32) :
    k0_pay5 v0 v2 v3 v5 v18 (ix2 r j) = rms (fun j => k0_pay3 v0 v2 v3 v5 (ix2 r j)) (fun j => v18 (ix2 0 j)) j := by
  pointwise [k0_pay5, rms]

theorem pay1_row (v : FVec Ideal S256x1024 .f32) (g : Vec Ideal S1x1024 .f32) :
    k0_pay1 v g (ix2 r j) = rms (fun j => v (ix2 r j)) (fun j => g (ix2 0 j)) j := by
  pointwise [k0_pay1, rms]

theorem pay7_row (v8 : FVec Ideal S256x1024 .f32) (h : FVec Ideal S256x1024 .bf16) (wg wu : Vec Ideal S1024x2816 .bf16)
    (wd : Vec Ideal S2816x1024 .bf16) :
    k0_pay7 v8 h wg wu wd (ix2 r j) = mlp (fun j => v8 (ix2 r j)) (fun j => h (ix2 r j)) (fun k l => wg (ix2 k l)) (fun k l => wu (ix2 k l)) (fun l j => wd (ix2 l j)) j := by
  pointwise [k0_pay7, mlp]

theorem pay2_row (v17 : FVec Ideal S256x1024 .f32) (g : Vec Ideal S1x1024 .f32) (wg wu : Vec Ideal S1024x2816 .bf16)
    (wd : Vec Ideal S2816x1024 .bf16) (nl : Vec Ideal S1x1024 .f32) :
    k0_pay2 v17 (k0_pay6 v17 g wg wu) (k0_pay8 wd) nl (ix2 r j)
      = rms (mlp (fun j => v17 (ix2 r j)) (rms (fun j => v17 (ix2 r j)) (fun j => g (ix2 0 j))) (fun k l => wg (ix2 k l)) (fun k l => wu (ix2 k l)) (fun l j => wd (ix2 l j)))
          (fun j => nl (ix2 0 j)) j := by
  pointwise [k0_pay2, k0_pay6, k0_pay8, mlp, rms]

end Payloads

/-- The block the body leaves, row by row. -/
theorem out_row (x0 : Vec Ideal S512x1024 .f32) (x1 x2 : Vec Ideal S512x512 .bf16) (x3 : Vec Ideal S1024x1024 .bf16)
    (x4 : Vec Ideal S1x1024 .f32) (x5 x6 : Vec Ideal S1024x2816 .bf16) (x7 : Vec Ideal S2816x1024 .bf16) (x8 : Vec Ideal S1x1024 .f32)
    (y : S512x1024.Idx) :
    out0_9 x0 x1 x2 x3 x4 x5 x6 x7 x8 y
      = full (fun j => x0 (ix2 (y 0) j)) (fun k => x1 (ix2 (y 0) k)) (fun k => x2 (ix2 (y 0) k)) (fun k j => x3 (ix2 k j)) (fun j => x4 (ix2 0 j))
          (fun k l => x5 (ix2 k l)) (fun k l => x6 (ix2 k l)) (fun l j => x7 (ix2 l j)) (fun j => x8 (ix2 0 j)) (y 1) := by
  unfold_out out0_9
  canon_tiles x h
  · obtain ⟨r, j, rfl⟩ : ∃ (r : Fin 256) (j : Fin 1024), x = ix2 r j := ⟨x 0, x 1, eq_ix2 x⟩
    have e0 : y 0 = (⟨256 + r, by omega⟩ : Fin 512) := Fin.ext h0
    have e1 : y 1 = j := Fin.ext h1
    rw [e0, e1, pay2_row]
    simp only [pay4_row]
    pointwise [full]
  · obtain ⟨r, j, rfl⟩ : ∃ (r : Fin 256) (j : Fin 1024), x = ix2 r j := ⟨x 0, x 1, eq_ix2 x⟩
    have e0 : y 0 = (⟨r, by omega⟩ : Fin 512) := Fin.ext h0
    have e1 : y 1 = j := Fin.ext h1
    rw [e0, e1, pay1_row]
    simp only [pay7_row, pay5_row, pay3_row]
    pointwise [full]

end Kernel

/-! ## The reference, row by row -/

section Reference

open Cert.ReferenceFfnIdeal Cert.ReferenceFfnIdeal.Gen

variable (r : Fin 32768) (j : Fin 1024)

/-- The residual plus the output projection, as the reference computes it. -/
def refMix (X : FVec Ideal S32768x1024 .f32) (A B : FVec Ideal S32768x512 .bf16)
    (W : FVec Ideal S1024x1024 .f32) : FVec Ideal S32768x1024 .f32 :=
  addf X (Host.dotGeneral dot_S32768x1024_S1024x1024_S32768x1024_1_0_0_1_n_n none
    (concatenate S32768x1024 1 [⟨S32768x512, extf .f32 A bitsLt_bf16_f32⟩,
      ⟨S32768x512, extf .f32 B bitsLt_bf16_f32⟩] concatenates_S32768x512_S32768x512_S32768x1024_d1) W)

/-- The norm, as the reference computes it. -/
def refRms (X : FVec Ideal S32768x1024 .f32) (g : FVec Ideal S1024 .f32) :
    FVec Ideal S32768x1024 .f32 :=
  mulf (mulf X (broadcastInDim S32768x1024 ![0, 1] bcast_S32768x1_S32768x1024_0_1 (Host.rsqrt (addf
    (Host.divf (broadcastInDim S32768x1 ![0] bcast_S32768_S32768x1_0
      (Host.reduceAdd (mulf X X) (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 g))

/-- The residual plus the channel mixer, as the reference computes it. -/
def refMlp (X H : FVec Ideal S32768x1024 .f32) (G U : FVec Ideal S1024x2816 .f32)
    (D : FVec Ideal S2816x1024 .f32) : FVec Ideal S32768x1024 .f32 :=
  addf X (Host.dotGeneral dot_S32768x2816_S2816x1024_S32768x1024_1_0_0_1_n_n none
    (mulf (mulf (Host.dotGeneral dot_S32768x1024_S1024x2816_S32768x2816_1_0_0_1_n_n none H G)
      (Host.divf (broadcastInDim S32768x2816 ![] bcast_S_S32768x2816 (constant S_ .f32 0x3F800000#32))
        (addf (broadcastInDim S32768x2816 ![] bcast_S_S32768x2816 (constant S_ .f32 0x3F800000#32))
          (Host.exp (Host.negf (Host.dotGeneral dot_S32768x1024_S1024x2816_S32768x2816_1_0_0_1_n_n none H G))))))
      (Host.dotGeneral dot_S32768x1024_S1024x2816_S32768x2816_1_0_0_1_n_n none H U)) D)

theorem refMix_row (X : FVec Ideal S32768x1024 .f32) (A B : FVec Ideal S32768x512 .bf16)
    (W : FVec Ideal S1024x1024 .f32) :
    refMix X A B W (ix2 r j) = mix (fun j => X (ix2 r j)) (fun k => A (ix2 r k)) (fun k => B (ix2 r k)) (fun k j => W (ix2 k j)) j := by
  pointwise [refMix, mix]

theorem refRms_row (X : FVec Ideal S32768x1024 .f32) (g : FVec Ideal S1024 .f32) :
    refRms X g (ix2 r j) = rms (fun j => X (ix2 r j)) (fun j => g (ix1 j)) j := by
  pointwise [refRms, rms]

theorem refMlp_row (X H : FVec Ideal S32768x1024 .f32) (G U : FVec Ideal S1024x2816 .f32)
    (D : FVec Ideal S2816x1024 .f32) :
    refMlp X H G U D (ix2 r j) = mlp (fun j => X (ix2 r j)) (fun j => H (ix2 r j)) (fun k l => G (ix2 k l)) (fun k l => U (ix2 k l)) (fun l j => D (ix2 l j)) j := by
  pointwise [refMlp, mlp, Ideal.logistic]

/-- The reference's result over its nine arguments. -/
def REF (x : FVec Ideal S16x2048x1024 .f32) (A B : FVec Ideal S32768x512 .bf16)
    (w : FVec Ideal S1x1024x1024 .f32) (nf : FVec Ideal S1x1024 .f32)
    (g u : FVec Ideal S1x1024x2816 .f32) (d : FVec Ideal S1x2816x1024 .f32)
    (nl : FVec Ideal S1024 .f32) : FVec Ideal S32768x1024 .f32 :=
  refRms (refMlp (refMix (shapeCast _ x shapeCasts_S16x2048x1024_S32768x1024) A B (shapeCast _ w shapeCasts_S1x1024x1024_S1024x1024))
      (refRms (refMix (shapeCast _ x shapeCasts_S16x2048x1024_S32768x1024) A B (shapeCast _ w shapeCasts_S1x1024x1024_S1024x1024))
        (shapeCast _ nf shapeCasts_S1x1024_S1024))
      (shapeCast _ g shapeCasts_S1x1024x2816_S1024x2816) (shapeCast _ u shapeCasts_S1x1024x2816_S1024x2816)
      (shapeCast _ d shapeCasts_S1x2816x1024_S2816x1024)) nl

theorem REF_row (x : FVec Ideal S16x2048x1024 .f32) (A B : FVec Ideal S32768x512 .bf16)
    (w : FVec Ideal S1x1024x1024 .f32) (nf : FVec Ideal S1x1024 .f32)
    (g u : FVec Ideal S1x1024x2816 .f32) (d : FVec Ideal S1x2816x1024 .f32)
    (nl : FVec Ideal S1024 .f32) :
    REF x A B w nf g u d nl (ix2 r j)
      = full (fun j => x (ix3 ⟨r / 2048, by omega⟩ ⟨r % 2048, by omega⟩ j)) (fun k => A (ix2 r k)) (fun k => B (ix2 r k)) (fun k j => w (ix3 0 k j))
          (fun j => nf (ix2 0 j)) (fun k l => g (ix3 0 k l)) (fun k l => u (ix3 0 k l)) (fun l j => d (ix3 0 l j)) (fun j => nl (ix1 j)) j := by
  unfold REF
  rw [refRms_row]
  simp only [refMlp_row, refRms_row, refMix_row]
  pointwise [full]

theorem res_eq (m : (ℓ : Loc nD τ sig) → Buf (Elt Ideal) ℓ) (c : Dev nD) :
    Cert.ReferenceFfnIdeal.Value.res_main_v42 m c
      = REF (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8)) := rfl

end Reference

/-! ## The array after the run -/

section Final

open Cert.KernelFfnIdeal Cert.KernelFfnIdeal.Gen Idealize.ShloMosaic.TcCoe

variable (m : (ℓ : Loc nD τ sig) → Buf (Elt Ideal) ℓ)

/-- The windows' block indices: the four row windows go down their arrays together, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

set_option maxHeartbeats 1600000 in
theorem final (c : Dev nD) : (dats m 0 c).arrAt 9 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9, out_row]
  have h0 : t.val * 512 + (y 0).val < 32768 := by
    have h := t.isLt
    have h' : (y 0).val < 512 := (y 0).isLt
    have hN : cfg0.grid.N = 64 := by decide
    omega
  have e : (win0_9.blk t).view.emb y = ix2 (⟨t.val * 512 + (y 0).val, h0⟩ : Fin 32768) (y 1 : Fin 1024) := by
    blk_ext [idx t]
  rw [e]
  refine Eq.trans ?_ (REF_row ⟨t.val * 512 + (y 0).val, h0⟩ (y 1) _ _ _ _ _ _ _ _ _).symm
  refine congrFun ?_ (y 1)
  congr 1
  · funext j; blk_ext! [iblk, V, idx t]
  · funext j; blk_ext! [iblk, V, idx t]
  · funext j; blk_ext! [iblk, V, idx t]
  · funext k j; blk_ext! [iblk, V, idx t]
  · funext j; blk_ext! [iblk, V, idx t]
  · funext j k; blk_ext! [iblk, V, idx t]
  · funext j k; blk_ext! [iblk, V, idx t]
  · funext j k; blk_ext! [iblk, V, idx t]
  · funext j; blk_ext! [iblk, V, idx t]

end Final

end Cert.Proof.Ffn
-- ==== Proof.Pack.lean ====
/-
  The combined projection's packed weights: `packed` lays the projection's columns out in the packed order, padded with
  zeros, and the array that the program packs before the call holds each row so laid out.
-/
module

public import proofs.«01_k».proof.Proof.Gen.KernelProjIdeal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Proj

open Idealize.ShloMosaic

/-- The columns but the values', in the packed order and padded with zeros. -/
def packed (p : Fin 3384 → EReal) (c : Fin 3072) : EReal :=
  if h : c.val < 1024 then p ⟨c.val, by omega⟩
  else if h : c.val < 1320 then p ⟨c.val + 512, by omega⟩
  else if h : c.val < 1408 then 0
  else if h : c.val < 2432 then p ⟨c.val + 424, by omega⟩
  else if h : c.val < 2944 then p ⟨c.val + 440, by omega⟩
  else if h : c.val < 2960 then p ⟨c.val - 88, by omega⟩
  else 0

/-- A row times the packed weights is the row times the weights, packed. -/
theorem sum_packed (h : Fin 1024 → EReal) (w : Fin 1024 → Fin 3384 → EReal) (c : Fin 3072) :
    ∑ k, h k * packed (w k) c = packed (fun j => ∑ k, h k * w k j) c := by
  unfold packed
  split_ifs <;> simp

open Cert.KernelProjIdeal Cert.KernelProjIdeal.Gen Idealize.ShloMosaic.TcCoe

/-- The packed weights over the slices of the projection that they are laid out from. -/
def packOf (q k : FVec Ideal S1024x512 .f32) (qi : FVec Ideal S1024x256 .f32) (kw : FVec Ideal S1024x128 .f32) (qb kb : FVec Ideal S1024x256 .f32)
    (vb og : FVec Ideal S1024x512 .f32) (gd : FVec Ideal S1024x128 .f32) : FVec Ideal S1024x3072 .bf16 :=
  truncf .bf16 (concatenate S1024x3072 1
    [⟨S1024x512, q⟩, ⟨S1024x512, k⟩, ⟨S1024x256, qi⟩, ⟨S1024x128, kw⟩, ⟨S1024x256, qb⟩, ⟨S1024x256, kb⟩, ⟨S1024x512, vb⟩, ⟨S1024x512, og⟩, ⟨S1024x128, gd⟩]
    concatenates_S1024x512_S1024x512_S1024x256_S1024x128_S1024x256_S1024x256_S1024x512_S1024x512_S1024x128_S1024x3072_d1) bitsLt_bf16_f32

/-- The indexer's key and weight columns. -/
def kiwi (a : FVec Ideal S1024x32 .f32) (b : FVec Ideal S1024x8 .f32) : FVec Ideal S1024x40 .f32 :=
  concatenate S1024x40 1 [⟨S1024x32, a⟩, ⟨S1024x8, b⟩] concatenates_S1024x32_S1024x8_S1024x40_d1

/-- The packed weights. -/
def pack (u : FVec Ideal S1024x3384 .f32) : FVec Ideal S1024x3072 .bf16 :=
  packOf (extractStridedSlice S1024x512 ![0, 0] u slices_S1024x3384_S1024x512_0_0)
    (extractStridedSlice S1024x512 ![0, 512] u slices_S1024x3384_S1024x512_0_512)
    (extractStridedSlice S1024x256 ![0, 1536] u slices_S1024x3384_S1024x256_0_1536)
    (pad S1024x128 ![0, 0] ![0, 88] ![0, 0] (kiwi (extractStridedSlice S1024x32 ![0, 1792] u slices_S1024x3384_S1024x32_0_1792)
      (extractStridedSlice S1024x8 ![0, 1824] u slices_S1024x3384_S1024x8_0_1824)) (sitofp .f32 (constantI S_ 32 0#32 : IVec S_ 32) : FVec Ideal S_ .f32) pads_S1024x40_S1024x128_000_0880 h_S_)
    (extractStridedSlice S1024x256 ![0, 1832] u slices_S1024x3384_S1024x256_0_1832)
    (extractStridedSlice S1024x256 ![0, 2088] u slices_S1024x3384_S1024x256_0_2088)
    (extractStridedSlice S1024x512 ![0, 2344] u slices_S1024x3384_S1024x512_0_2344)
    (extractStridedSlice S1024x512 ![0, 2872] u slices_S1024x3384_S1024x512_0_2872)
    (pad S1024x128 ![0, 0] ![0, 112] ![0, 0] (extractStridedSlice S1024x16 ![0, 2856] u slices_S1024x3384_S1024x16_0_2856)
      (sitofp .f32 (constantI S_ 32 0#32 : IVec S_ 32) : FVec Ideal S_ .f32) pads_S1024x16_S1024x128_000_01120 h_S_)

/-! ## Reading the layout at an index -/

theorem sitofp_zero : FloatOps.sitofp (F := Ideal) .f32 0#32 = 0 := by
  show (((0#32 : BitVec 32).toInt : ℝ) : EReal) = 0
  simp

theorem u_row (w : FVec Ideal S1x1024x3384 .f32) (k : Fin 1024) (l : Fin 3384) :
    shapeCast S1024x3384 w shapeCasts_S1x1024x3384_S1024x3384 (ix2 k l) = w (ix3 0 k l) := by
  pointwise

theorem packOf_row (q k : FVec Ideal S1024x512 .f32) (qi : FVec Ideal S1024x256 .f32) (kw : FVec Ideal S1024x128 .f32) (qb kb : FVec Ideal S1024x256 .f32)
    (vb og : FVec Ideal S1024x512 .f32) (gd : FVec Ideal S1024x128 .f32) (r : Fin 1024) (j : Fin 3072) :
    packOf q k qi kw qb kb vb og gd (ix2 r j) =
      if h : j.val < 512 then q (ix2 r ⟨j.val, h⟩)
      else if h : j.val - 512 < 512 then k (ix2 r ⟨j.val - 512, h⟩)
      else if h : j.val - 512 - 512 < 256 then qi (ix2 r ⟨j.val - 512 - 512, h⟩)
      else if h : j.val - 512 - 512 - 256 < 128 then kw (ix2 r ⟨j.val - 512 - 512 - 256, h⟩)
      else if h : j.val - 512 - 512 - 256 - 128 < 256 then qb (ix2 r ⟨j.val - 512 - 512 - 256 - 128, h⟩)
      else if h : j.val - 512 - 512 - 256 - 128 - 256 < 256 then kb (ix2 r ⟨j.val - 512 - 512 - 256 - 128 - 256, h⟩)
      else if h : j.val - 512 - 512 - 256 - 128 - 256 - 256 < 512 then vb (ix2 r ⟨j.val - 512 - 512 - 256 - 128 - 256 - 256, h⟩)
      else if h : j.val - 512 - 512 - 256 - 128 - 256 - 256 - 512 < 512 then og (ix2 r ⟨j.val - 512 - 512 - 256 - 128 - 256 - 256 - 512, h⟩)
      else gd (ix2 r ⟨j.val - 512 - 512 - 256 - 128 - 256 - 256 - 512 - 512, by omega⟩) := by
  pointwise [packOf]

theorem kw_row (a : FVec Ideal S1024x32 .f32) (b : FVec Ideal S1024x8 .f32) (k : Fin 1024) (j : Fin 128) :
    pad S1024x128 ![0, 0] ![0, 88] ![0, 0] (kiwi a b) (sitofp .f32 (constantI S_ 32 0#32 : IVec S_ 32) : FVec Ideal S_ .f32) pads_S1024x40_S1024x128_000_0880 h_S_ (ix2 k j)
      = if h : j.val < 40 then (if h : j.val < 32 then a (ix2 k ⟨j.val, h⟩) else b (ix2 k ⟨j.val - 32, by omega⟩)) else 0 := by
  pointwise [kiwi]
  simp only [sitofp_zero]

theorem gd_row (a : FVec Ideal S1024x16 .f32) (k : Fin 1024) (j : Fin 128) :
    pad S1024x128 ![0, 0] ![0, 112] ![0, 0] a (sitofp .f32 (constantI S_ 32 0#32 : IVec S_ 32) : FVec Ideal S_ .f32) pads_S1024x16_S1024x128_000_01120 h_S_ (ix2 k j)
      = if h : j.val < 16 then a (ix2 k ⟨j.val, h⟩) else 0 := by
  pointwise
  simp only [sitofp_zero]

set_option maxHeartbeats 4000000 in
theorem pack_row (u : FVec Ideal S1024x3384 .f32) (k : Fin 1024) (j : Fin 3072) : pack u (ix2 k j) = packed (fun l => u (ix2 k l)) j := by
  rw [pack, packOf_row, packed]
  have hj : j.val < 512 ∨ (512 ≤ j.val ∧ j.val < 1024) ∨ (1024 ≤ j.val ∧ j.val < 1280) ∨ (1280 ≤ j.val ∧ j.val < 1312) ∨ (1312 ≤ j.val ∧ j.val < 1320)
      ∨ (1320 ≤ j.val ∧ j.val < 1408) ∨ (1408 ≤ j.val ∧ j.val < 1664) ∨ (1664 ≤ j.val ∧ j.val < 1920) ∨ (1920 ≤ j.val ∧ j.val < 2432)
      ∨ (2432 ≤ j.val ∧ j.val < 2944) ∨ (2944 ≤ j.val ∧ j.val < 2960) ∨ 2960 ≤ j.val := by omega
  rcases hj with h | h | h | h | h | h | h | h | h | h | h | h
  all_goals simp (disch := omega) only [dif_pos, dif_neg, kw_row, gd_row]
  all_goals pointwise
  all_goals exact congrArg (fun l => u (ix2 k l)) (Fin.ext (by simp only; omega))

/-! ## The arrays that the call reads -/

variable (m : (ℓ : Loc nD τ sig) → Buf (Elt Ideal) ℓ) (c : Dev nD)

theorem V19 : (V m c main_v19 : FVec Ideal S1024x3072 .bf16) = pack (shapeCast S1024x3384 (m ((c : Thread nD τ).loc main_arg2) : FVec Ideal S1x1024x3384 .f32) shapeCasts_S1x1024x3384_S1024x3384) := by
  show StableHlo.after (hostOps0 ++ hostOps0_1 ++ hostOps0_2 ++ hostOps0_3 ++ hostOps0_4) (fun b => m (c, b)) (Proc.devRef .tc main_v19) = _
  after_reads_simp
  show packOf _ _ _ _ _ _ _ _ _ = _
  simp only [Matrix.cons_val]
  after_reads_simp
  simp -implicitDefEqProofs only [StableHlo.TRef.toBuf, StableHlo.TRef.ofBuf, cast_cast, cast_eq]
  show packOf _ _ _ (pad S1024x128 ![0, 0] ![0, 88] ![0, 0] (kiwi _ _) _ pads_S1024x40_S1024x128_000_0880 h_S_) _ _ _ _ _ = _
  after_reads_simp
  rfl

theorem W_read (k : Fin 1024) (j : Fin 3072) :
    (V m c main_v19 : FVec Ideal S1024x3072 .bf16) (ix2 k j) = packed (fun l => (m ((c : Thread nD τ).loc main_arg2) : FVec Ideal S1x1024x3384 .f32) (ix3 0 k l)) j := by
  rw [V19, pack_row]
  exact congrArg (packed · j) (funext fun l => u_row _ k l)

theorem X_read (r : Fin 32768) (j : Fin 1024) :
    (V m c main_v0 : Vec Ideal S32768x1024 .f32) (ix2 r j)
      = (m ((c : Thread nD τ).loc main_arg0) : Vec Ideal S16x2048x1024 .f32) (ix3 ⟨r / 2048, by omega⟩ ⟨r % 2048, by omega⟩ j) := by
  show StableHlo.after (hostOps0 ++ hostOps0_1 ++ hostOps0_2 ++ hostOps0_3 ++ hostOps0_4) (fun b => m (c, b)) (Proc.devRef .tc main_v0) (ix2 r j) = _
  after_reads_at

theorem G_read (j : Fin 1024) :
    (V m c main_v2 : Vec Ideal S1x1024 .f32) (ix2 0 j) = (m ((c : Thread nD τ).loc main_arg1) : Vec Ideal S1x1024 .f32) (ix2 0 j) := by
  show StableHlo.after (hostOps0 ++ hostOps0_1 ++ hostOps0_2 ++ hostOps0_3 ++ hostOps0_4) (fun b => m (c, b)) (Proc.devRef .tc main_v2) (ix2 0 j) = _
  after_reads_at

theorem WV_read (q : Fin 512) (k : Fin 1024) :
    (V m c main_v21 : Vec Ideal S512x1024 .bf16) (ix2 q k)
      = (m ((c : Thread nD τ).loc main_arg2) : Vec Ideal S1x1024x3384 .f32) (ix3 0 k ⟨1024 + q.val, by omega⟩) := by
  show StableHlo.after (hostOps0 ++ hostOps0_1 ++ hostOps0_2 ++ hostOps0_3 ++ hostOps0_4) (fun b => m (c, b)) (Proc.devRef .tc main_v21) (ix2 q k) = _
  after_reads_at

end Cert.Proof.Proj
-- ==== Proof.Proj.lean ====
/-
  The input norm and the combined projection, row by row: `packed` lays the columns of a row's product out as the
  kernel's four results hold them, and the packed weights lay out the projection's columns the same way.
-/
module

public import proofs.«01_k».proof.Proof.Pack
public import proofs.«01_k».proof.Proof.Gen.ReferenceProjIdeal.Run
public import proofs.«01_k».proof.Proof.Ffn
public import Idealize.ShloMosaic.Lib.Pointwise
public import Idealize.ShloMosaic.Lib.Pipeline.ValueKit

@[expose] public section

set_option maxRecDepth 16384

noncomputable section

namespace Cert.Proof.Proj

open Idealize.ShloMosaic Cert.Proof.Ffn

/-! ## One row of the results -/

/-- The scaled queries and the keys. -/
def rowA (p : Fin 3384 → EReal) (j : Fin 1024) : EReal :=
  if j.val < 512 then packed p ⟨j.val, by omega⟩ * Ideal.ofBits .f32 0x3E38AA3B#32 else packed p ⟨j.val, by omega⟩

/-- The values, head by head, each followed by sixteen ones. -/
def rowV (p : Fin 3384 → EReal) (q : Fin 640) : EReal :=
  if q.val % 80 < 64 then p ⟨1024 + (q.val / 80 * 64 + q.val % 80), by omega⟩ else 1

/-- The indexer's columns. -/
def rowI (p : Fin 3384 → EReal) (j : Fin 384) : EReal := packed p ⟨1024 + j.val, by omega⟩

/-- The gated mixer's columns. -/
def rowB (p : Fin 3384 → EReal) (j : Fin 1664) : EReal := packed p ⟨1408 + j.val, by omega⟩

/-! ## The reference, row by row -/

section Reference

open Cert.ReferenceProjIdeal Cert.ReferenceProjIdeal.Gen

/-- The product of the normed rows with the projection. -/
def refP (X : FVec Ideal S32768x1024 .f32) (g : FVec Ideal S1024 .f32) (w : FVec Ideal S1024x3384 .f32) : FVec Ideal S32768x3384 .f32 :=
  Host.dotGeneral dot_S32768x1024_S1024x3384_S32768x3384_1_0_0_1_n_n none (mulf (mulf X (broadcastInDim S32768x1024 ![0, 1] bcast_S32768x1_S32768x1024_0_1 (Host.rsqrt (addf
    (Host.divf (broadcastInDim S32768x1 ![0] bcast_S32768_S32768x1_0
      (Host.reduceAdd (mulf X X) (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 g))) w

/-- The scaled queries and the keys. -/
def refA (P : FVec Ideal S32768x3384 .f32) : FVec Ideal S32768x1024 .bf16 :=
  truncf .bf16 (concatenate S32768x1024 1
    [⟨S32768x512, mulf (extractStridedSlice S32768x512 ![0, 0] P slices_S32768x3384_S32768x512_0_0)
        (broadcastInDim S32768x512 ![] bcast_S_S32768x512 (constant S_ .f32 0x3E38AA3B#32))⟩,
     ⟨S32768x512, extractStridedSlice S32768x512 ![0, 512] P slices_S32768x3384_S32768x512_0_512⟩]
    concatenates_S32768x512_S32768x512_S32768x1024_d1) bitsLt_bf16_f32

/-- The values, head by head. -/
def refVals (P : FVec Ideal S32768x3384 .f32) : FVec Ideal S32768x8x64 .f32 :=
  shapeCast S32768x8x64 (extractStridedSlice S32768x512 ![0, 1024] P slices_S32768x3384_S32768x512_0_1024) shapeCasts_S32768x512_S32768x8x64

/-- The values beside the ones, head by head. -/
def refHeads (P : FVec Ideal S32768x3384 .f32) : FVec Ideal S32768x8x80 .f32 :=
  concatenate S32768x8x80 2
    [⟨S32768x8x64, refVals P⟩,
     ⟨S32768x8x16, broadcastInDim S32768x8x16 ![] bcast_S_S32768x8x16 (constant S_ .f32 0x3F800000#32)⟩]
    concatenates_S32768x8x64_S32768x8x16_S32768x8x80_d2

/-- The values and the ones, transposed. -/
def refV (P : FVec Ideal S32768x3384 .f32) : FVec Ideal S640x32768 .bf16 :=
  truncf .bf16 (transpose S640x32768 [1, 0] (shapeCast S32768x640 (refHeads P) shapeCasts_S32768x8x80_S32768x640)
    transposes_S32768x640_S640x32768_1_0) bitsLt_bf16_f32

/-- The indexer's columns. -/
def refI (P : FVec Ideal S32768x3384 .f32) : FVec Ideal S32768x384 .f32 :=
  concatenate S32768x384 1
    [⟨S32768x256, extractStridedSlice S32768x256 ![0, 1536] P slices_S32768x3384_S32768x256_0_1536⟩,
     ⟨S32768x32, extractStridedSlice S32768x32 ![0, 1792] P slices_S32768x3384_S32768x32_0_1792⟩,
     ⟨S32768x8, extractStridedSlice S32768x8 ![0, 1824] P slices_S32768x3384_S32768x8_0_1824⟩,
     ⟨S32768x88, broadcastInDim S32768x88 ![] bcast_S_S32768x88 (constant S_ .f32 0x00000000#32)⟩]
    concatenates_S32768x256_S32768x32_S32768x8_S32768x88_S32768x384_d1

/-- The gated mixer's columns. -/
def refB (P : FVec Ideal S32768x3384 .f32) : FVec Ideal S32768x1664 .f32 :=
  concatenate S32768x1664 1
    [⟨S32768x256, extractStridedSlice S32768x256 ![0, 1832] P slices_S32768x3384_S32768x256_0_1832⟩,
     ⟨S32768x256, extractStridedSlice S32768x256 ![0, 2088] P slices_S32768x3384_S32768x256_0_2088⟩,
     ⟨S32768x512, extractStridedSlice S32768x512 ![0, 2344] P slices_S32768x3384_S32768x512_0_2344⟩,
     ⟨S32768x512, extractStridedSlice S32768x512 ![0, 2872] P slices_S32768x3384_S32768x512_0_2872⟩,
     ⟨S32768x16, extractStridedSlice S32768x16 ![0, 2856] P slices_S32768x3384_S32768x16_0_2856⟩,
     ⟨S32768x112, broadcastInDim S32768x112 ![] bcast_S_S32768x112 (constant S_ .f32 0x00000000#32)⟩]
    concatenates_S32768x256_S32768x256_S32768x512_S32768x512_S32768x16_S32768x112_S32768x1664_d1

variable (P : FVec Ideal S32768x3384 .f32) (r : Fin 32768)

theorem refP_row (X : FVec Ideal S32768x1024 .f32) (g : FVec Ideal S1024 .f32) (w : FVec Ideal S1024x3384 .f32) (l : Fin 3384) :
    refP X g w (ix2 r l) = ∑ k, rms (fun j => X (ix2 r j)) (fun j => g (ix1 j)) k * w (ix2 k l) := by
  pointwise [refP, rms]

theorem refA_row (j : Fin 1024) : refA P (ix2 r j) = rowA (fun l => P (ix2 r l)) j := by
  have e : refA P (ix2 r j) = if h : j.val < 512 then P (ix2 r ⟨j.val, by omega⟩) * Ideal.ofBits .f32 0x3E38AA3B#32 else P (ix2 r ⟨512 + (j.val - 512), by omega⟩) := by
    pointwise [refA]
  rw [e, rowA, packed]
  by_cases h : j.val < 512
  · simp (disch := omega) only [dif_pos, if_pos]
  · simp (disch := omega) only [dif_pos, dif_neg, if_neg]
    exact congrArg (fun l => P (ix2 r l)) (Fin.ext (by dsimp only; omega))

theorem refVals_row (a : Fin 8) (b : Fin 64) : refVals P (ix3 r a b) = P (ix2 r ⟨1024 + (a.val * 64 + b.val), by omega⟩) := by
  pointwise [refVals]

theorem refHeads_row (a : Fin 8) (b : Fin 80) : refHeads P (ix3 r a b) = if h : b.val < 64 then refVals P (ix3 r a ⟨b.val, h⟩) else 1 := by
  pointwise [refHeads]

theorem refV_row (q : Fin 640) : refV P (ix2 q r) = rowV (fun l => P (ix2 r l)) q := by
  have e : refV P (ix2 q r) = refHeads P (ix3 r ⟨q.val / 80, by omega⟩ ⟨q.val % 80, by omega⟩) := by
    pointwise [refV]
  rw [e, refHeads_row, rowV]
  dsimp only
  by_cases h : q.val % 80 < 64
  · rw [dif_pos h, if_pos h, refVals_row]
  · rw [dif_neg h, if_neg h]

theorem refI_row (j : Fin 384) : refI P (ix2 r j) = rowI (fun l => P (ix2 r l)) j := by
  have e : refI P (ix2 r j) = if h : j.val < 256 then P (ix2 r ⟨1536 + j.val, by omega⟩)
      else if h : j.val - 256 < 32 then P (ix2 r ⟨1792 + (j.val - 256), by omega⟩)
      else if h : j.val - 256 - 32 < 8 then P (ix2 r ⟨1824 + (j.val - 256 - 32), by omega⟩)
      else 0 := by
    pointwise [refI]
  rw [e, rowI, packed]
  have hj : j.val < 256 ∨ (256 ≤ j.val ∧ j.val < 288) ∨ (288 ≤ j.val ∧ j.val < 296) ∨ 296 ≤ j.val := by omega
  rcases hj with h | h | h | h
  all_goals simp (disch := omega) only [dif_pos, dif_neg]
  all_goals exact congrArg (fun l => P (ix2 r l)) (Fin.ext (by dsimp only; omega))

theorem refB_row (j : Fin 1664) : refB P (ix2 r j) = rowB (fun l => P (ix2 r l)) j := by
  have e : refB P (ix2 r j) = if h : j.val < 256 then P (ix2 r ⟨1832 + j.val, by omega⟩)
      else if h : j.val - 256 < 256 then P (ix2 r ⟨2088 + (j.val - 256), by omega⟩)
      else if h : j.val - 256 - 256 < 512 then P (ix2 r ⟨2344 + (j.val - 256 - 256), by omega⟩)
      else if h : j.val - 256 - 256 - 512 < 512 then P (ix2 r ⟨2872 + (j.val - 256 - 256 - 512), by omega⟩)
      else if h : j.val - 256 - 256 - 512 - 512 < 16 then P (ix2 r ⟨2856 + (j.val - 256 - 256 - 512 - 512), by omega⟩)
      else 0 := by
    pointwise [refB]
  rw [e, rowB, packed]
  have hj : j.val < 256 ∨ (256 ≤ j.val ∧ j.val < 512) ∨ (512 ≤ j.val ∧ j.val < 1024) ∨ (1024 ≤ j.val ∧ j.val < 1536) ∨ (1536 ≤ j.val ∧ j.val < 1552) ∨ 1552 ≤ j.val := by omega
  rcases hj with h | h | h | h | h | h
  all_goals simp (disch := omega) only [dif_pos, dif_neg]
  all_goals exact congrArg (fun l => P (ix2 r l)) (Fin.ext (by dsimp only; omega))

/-- The reference's product over its arguments. -/
def REF (x : FVec Ideal S16x2048x1024 .f32) (g : FVec Ideal S1x1024 .f32) (w : FVec Ideal S1x1024x3384 .f32) : FVec Ideal S32768x3384 .f32 :=
  refP (shapeCast _ x shapeCasts_S16x2048x1024_S32768x1024) (shapeCast _ g shapeCasts_S1x1024_S1024) (shapeCast _ w shapeCasts_S1x1024x3384_S1024x3384)

/-- A row of the product. -/
def prod (x : FVec Ideal S16x2048x1024 .f32) (g : FVec Ideal S1x1024 .f32) (w : FVec Ideal S1x1024x3384 .f32) (r : Fin 32768) (l : Fin 3384) : EReal :=
  ∑ k, rms (fun j => x (ix3 ⟨r / 2048, by omega⟩ ⟨r % 2048, by omega⟩ j)) (fun j => g (ix2 0 j)) k * w (ix3 0 k l)

theorem REF_row (x : FVec Ideal S16x2048x1024 .f32) (g : FVec Ideal S1x1024 .f32) (w : FVec Ideal S1x1024x3384 .f32) :
    (fun l => REF x g w (ix2 r l)) = prod x g w r := by
  funext l
  unfold REF
  rw [refP_row]
  pointwise [prod]

theorem res_eq (m : (ℓ : Loc nD τ sig) → Buf (Elt Ideal) ℓ) (c : Dev nD) :
    Cert.ReferenceProjIdeal.Value.res_main_v39 m c
      = refB (REF (m ((c.tc : Thread nD τ).loc main_arg0)) (m ((c.tc : Thread nD τ).loc main_arg1)) (m ((c.tc : Thread nD τ).loc main_arg2))) := rfl

end Reference

/-! ## The kernel's blocks -/

section Kernel
open Cert.KernelProjIdeal Cert.KernelProjIdeal.Gen Idealize.ShloMosaic.TcCoe

section Payloads

theorem pay4_row (v0 : Vec Ideal S512x1024 .f32) (v2 : Vec Ideal S1x1024 .f32) (r : Fin 512) (j : Fin 1024) :
    k0_pay4 v0 v2 (ix2 r j) = rms (fun j => v0 (ix2 r j)) (fun j => v2 (ix2 0 j)) j := by
  pointwise [k0_pay4, rms]

theorem pay5_row (v0 : Vec Ideal S512x1024 .f32) (v2 : Vec Ideal S1x1024 .f32) (w : Vec Ideal S1024x512 .bf16) (r : Fin 512) (j : Fin 512) :
    k0_pay5 v0 v2 w (ix2 r j) = (∑ k, k0_pay4 v0 v2 (ix2 r k) * w (ix2 k j)) * Ideal.ofBits .f32 0x3E38AA3B#32 := by
  pointwise [k0_pay5]

theorem pay6_row (v0 : Vec Ideal S512x1024 .f32) (v2 : Vec Ideal S1x1024 .f32) (w : Vec Ideal S1024x512 .bf16) (r : Fin 512) (j : Fin 512) :
    k0_pay6 v0 v2 w (ix2 r j) = ∑ k, k0_pay4 v0 v2 (ix2 r k) * w (ix2 k j) := by
  pointwise [k0_pay6]

theorem pay7_row (v0 : Vec Ideal S512x1024 .f32) (v2 : Vec Ideal S1x1024 .f32) (w : Vec Ideal S512x1024 .bf16) (q : Fin 512) (r : Fin 512) :
    k0_pay7 v0 v2 w (ix2 q r) = ∑ k, w (ix2 q k) * k0_pay4 v0 v2 (ix2 r k) := by
  pointwise [k0_pay7]

theorem pay2_row (h : FVec Ideal S512x1024 .bf16) (w : Vec Ideal S1024x384 .bf16) (r : Fin 512) (j : Fin 384) :
    k0_pay2 h w (ix2 r j) = ∑ k, h (ix2 r k) * w (ix2 k j) := by
  pointwise [k0_pay2]

theorem pay3_row (h : FVec Ideal S512x1024 .bf16) (w : Vec Ideal S1024x1664 .bf16) (r : Fin 512) (j : Fin 1664) :
    k0_pay3 h w (ix2 r j) = ∑ k, h (ix2 r k) * w (ix2 k j) := by
  pointwise [k0_pay3]

end Payloads

variable (m : (ℓ : Loc nD τ sig) → Buf (Elt Ideal) ℓ) (c : Dev nD) (t : Fin cfg0.N)

/-- The normed row of a block. -/
def H (r : Fin 512) : Fin 1024 → EReal :=
  rms (fun j => (iblk m c 0 t : Vec Ideal S512x1024 .f32) (ix2 r j)) (fun j => (iblk m c 1 t : Vec Ideal S1x1024 .f32) (ix2 0 j))

theorem out7 (y : S512x1664.Idx) : (outsAt0 m c t).2.2.2 y
    = ∑ k, H m c t (y 0) k * (iblk m c 2 t : Vec Ideal S1024x3072 .bf16) (ix2 k ⟨1408 + (y 1).val, by have h : (y 1).val < 1664 := (y 1).isLt; omega⟩) := by
  unfold outsAt0 out0_A_7
  dsimp only
  rw [View.read_writes_junk_eq_canon]
  unfold kernelRun0_A
  dsimp only
  canon_tiles x h
  simp only [View.readAt_eq_ld, Memref.IsWhole.read_unread, kernelRun0_A.sl.r]
  obtain ⟨r, j, rfl⟩ : ∃ (r : Fin 512) (j : Fin 1664), x = ix2 r j := ⟨x 0, x 1, eq_ix2 x⟩
  have e0 : y 0 = r := Fin.ext h0
  have e1 : (y 1).val = j.val := h1
  rw [pay3_row]
  simp only [pay4_row, e0, e1, H]
  pointwise

theorem out6 (y : S512x384.Idx) : (outsAt0 m c t).2.2.1 y
    = ∑ k, H m c t (y 0) k * (iblk m c 2 t : Vec Ideal S1024x3072 .bf16) (ix2 k ⟨1024 + (y 1).val, by have h : (y 1).val < 384 := (y 1).isLt; omega⟩) := by
  unfold outsAt0 out0_A_6
  dsimp only
  rw [View.read_writes_junk_eq_canon]
  unfold kernelRun0_A
  dsimp only
  canon_tiles x h
  simp only [View.readAt_eq_ld, Memref.IsWhole.read_unread, kernelRun0_A.sl.r]
  obtain ⟨r, j, rfl⟩ : ∃ (r : Fin 512) (j : Fin 384), x = ix2 r j := ⟨x 0, x 1, eq_ix2 x⟩
  have e0 : y 0 = r := Fin.ext h0
  have e1 : (y 1).val = j.val := h1
  rw [pay2_row]
  simp only [pay4_row, e0, e1, H]
  pointwise

theorem out4 (y : S512x1024.Idx) : (outsAt0 m c t).1 y
    = if (y 1).val < 512 then
        (∑ k, H m c t (y 0) k * (iblk m c 2 t : Vec Ideal S1024x3072 .bf16) (ix2 k ⟨(y 1).val, by have h : (y 1).val < 1024 := (y 1).isLt; omega⟩)) * Ideal.ofBits .f32 0x3E38AA3B#32
      else ∑ k, H m c t (y 0) k * (iblk m c 2 t : Vec Ideal S1024x3072 .bf16) (ix2 k ⟨(y 1).val, by have h : (y 1).val < 1024 := (y 1).isLt; omega⟩) := by
  unfold outsAt0 out0_A_4
  dsimp only
  rw [View.read_writes_junk_eq_canon]
  unfold kernelRun0_A
  dsimp only
  canon_tiles x h
  all_goals simp only [View.readAt_eq_ld, Memref.IsWhole.read_unread]
  all_goals obtain ⟨r, j, rfl⟩ : ∃ (r j : Fin 512), x = ix2 r j := ⟨x 0, x 1, eq_ix2 x⟩
  all_goals have e0 : y 0 = r := Fin.ext h0
  · have e1 : (y 1).val = 512 + j.val := h1
    rw [pay6_row, if_neg (by omega)]
    simp only [pay4_row, e0, e1, H]
    pointwise
  · have e1 : (y 1).val = j.val := h1
    rw [pay5_row, if_pos (by omega)]
    simp only [pay4_row, e0, e1, H]
    pointwise

theorem ones_row (x : S16x512.Idx) : (k0_pay8 : FVec Ideal S16x512 .bf16) x = 1 := by
  pointwise [k0_pay8]

/-- The product of the values' weights with the normed rows. -/
def U (q r : Fin 512) : EReal := ∑ k, H m c t r k * (iblk m c 3 t : Vec Ideal S512x1024 .bf16) (ix2 q k)

theorem vals_row (q r : Fin 512) :
    kernelRun0_A.sl.r_1 c (ms0_0 t) (hs0_0 t) (ms0_1 t) (hs0_1 t) (ms0_3 t) (hs0_3 t) (iblk m c 0 t) (iblk m c 1 t) (iblk m c 3 t) (ix2 q r) = U m c t q r := by
  simp only [kernelRun0_A.sl.r_1, View.readAt_eq_ld, Memref.IsWhole.read_unread]
  rw [pay7_row]
  simp only [pay4_row, U, H]
  refine Finset.sum_congr rfl fun k _ => ?_
  rw [mul_comm]
  pointwise

theorem out5 (y : S640x512.Idx) : (outsAt0 m c t).2.1 y
    = if (y 0).val % 80 < 64 then U m c t ⟨(y 0).val / 80 * 64 + (y 0).val % 80 % 64, by have h : (y 0).val < 640 := (y 0).isLt; omega⟩ (y 1) else 1 := by
  unfold outsAt0 out0_A_5
  dsimp only
  rw [View.read_writes_junk_eq_canon]
  have hc := cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) y
  have hv := vals_row m c t
  revert hc
  unfold kernelRun0_A
  dsimp only
  intro hc
  have e2 : kernelRun0_A.sl.r_2 c (ms0_0 t) (hs0_0 t) (ms0_1 t) (hs0_1 t) (ms0_3 t) (hs0_3 t) (iblk m c 0 t) (iblk m c 1 t) (iblk m c 3 t)
      = extractStridedSlice S64x512 ![0, 0] (kernelRun0_A.sl.r_1 c (ms0_0 t) (hs0_0 t) (ms0_1 t) (hs0_1 t) (ms0_3 t) (hs0_3 t) (iblk m c 0 t) (iblk m c 1 t) (iblk m c 3 t))
          slices_S512x512_o0_0_S64x512 := rfl
  rw [e2] at hc ⊢
  generalize kernelRun0_A.sl.r_1 c (ms0_0 t) (hs0_0 t) (ms0_1 t) (hs0_1 t) (ms0_3 t) (hs0_3 t) (iblk m c 0 t) (iblk m c 1 t) (iblk m c 3 t) = v at hv hc ⊢
  canon_tiles x h
  all_goals clear hc
  all_goals first
    | (rw [if_neg (by omega)]; exact ones_row x)
    | (obtain ⟨q, r, rfl⟩ : ∃ (q : Fin 64) (r : Fin 512), x = ix2 q r := ⟨x 0, x 1, eq_ix2 x⟩
       have e1 : y 1 = r := Fin.ext h1
       have hq : ((ix2 q r : S64x512.Idx) 0).val = q.val := rfl
       rw [hq] at h0
       rw [if_pos (by omega), e1]
       pointwise [k0_pay1, k0_pay10, k0_pay11, k0_pay12, k0_pay13, k0_pay14, k0_pay15]
       rw [hv]
       exact congrArg (U m c t · r) (Fin.ext (by dsimp only; omega)))

/-! ## The arrays after the run -/

/-- The windows' block indices: the rows go down together, the values' block across, the weights stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, t.val] ∧ win0_6.index t = ![t.val, 0]
    ∧ win0_7.index t = ![t.val, 0] :=
  (by decide +kernel : ∀ t : Fin grid0.N, _)

theorem lt_rows (r : Fin 512) : t.val * 512 + r.val < 32768 := by
  have h := t.isLt
  have hN : cfg0.N = 64 := by decide
  omega

theorem x_blk (r : Fin 512) (j : Fin 1024) : (iblk m c 0 t : Vec Ideal S512x1024 .f32) (ix2 r j)
    = (V m c main_v0 : Vec Ideal S32768x1024 .f32) (ix2 ⟨t.val * 512 + r.val, lt_rows t r⟩ j) := by
  blk_ext! [iblk, idx t]

theorem g_blk (j : Fin 1024) : (iblk m c 1 t : Vec Ideal S1x1024 .f32) (ix2 0 j) = (V m c main_v2 : Vec Ideal S1x1024 .f32) (ix2 0 j) := by
  blk_ext! [iblk, idx t]

theorem w_blk (k : Fin 1024) (j : Fin 3072) : (iblk m c 2 t : Vec Ideal S1024x3072 .bf16) (ix2 k j) = (V m c main_v19 : FVec Ideal S1024x3072 .bf16) (ix2 k j) := by
  blk_ext! [iblk, idx t]

theorem wv_blk (q : Fin 512) (k : Fin 1024) : (iblk m c 3 t : Vec Ideal S512x1024 .bf16) (ix2 q k) = (V m c main_v21 : Vec Ideal S512x1024 .bf16) (ix2 q k) := by
  blk_ext! [iblk, idx t]

/-- The rows of the product, over the arguments. -/
theorem H_eq (r : Fin 512) : H m c t r = rms (fun j => (m ((c : Thread nD τ).loc main_arg0) : FVec Ideal S16x2048x1024 .f32)
      (ix3 ⟨(t.val * 512 + r.val) / 2048, by have := lt_rows t r; omega⟩ ⟨(t.val * 512 + r.val) % 2048, by omega⟩ j))
    (fun j => (m ((c : Thread nD τ).loc main_arg1) : FVec Ideal S1x1024 .f32) (ix2 0 j)) := by
  exact congrArg₂ rms (funext fun j => (x_blk m c t r j).trans (X_read m c _ j)) (funext fun j => (g_blk m c t j).trans (G_read m c j))

/-- A row of the product, over the program's arguments. -/
abbrev rowP (r : Fin 512) : Fin 3384 → EReal :=
  prod (m ((c : Thread nD τ).loc main_arg0)) (m ((c : Thread nD τ).loc main_arg1)) (m ((c : Thread nD τ).loc main_arg2)) ⟨t.val * 512 + r.val, lt_rows t r⟩

theorem dot_eq (r : Fin 512) (j : Fin 3072) :
    ∑ k, H m c t r k * (iblk m c 2 t : Vec Ideal S1024x3072 .bf16) (ix2 k j) = packed (rowP m c t r) j := by
  refine Eq.trans (Finset.sum_congr rfl fun k _ => congrArg₂ (· * ·) (congrFun (H_eq m c t r) k) ((w_blk m c t k j).trans (W_read m c k j))) ?_
  exact sum_packed _ _ j

theorem U_eq (q r : Fin 512) : U m c t q r = rowP m c t r ⟨1024 + q.val, by omega⟩ := by
  exact Finset.sum_congr rfl fun k _ => congrArg₂ (· * ·) (congrFun (H_eq m c t r) k) ((wv_blk m c t q k).trans (WV_read m c q k))

theorem row4 (y : S512x1024.Idx) : (outsAt0 m c t).1 y = rowA (rowP m c t (y 0)) (y 1) := by
  refine (out4 m c t y).trans ?_
  have e := dot_eq m c t (y 0) ⟨(y 1).val, by have h : (y 1).val < 1024 := (y 1).isLt; omega⟩
  unfold rowA
  by_cases h : (y 1).val < 512
  · exact (if_pos h).trans ((congrArg (· * Ideal.ofBits .f32 0x3E38AA3B#32) e).trans (if_pos h).symm)
  · exact (if_neg h).trans (e.trans (if_neg h).symm)

theorem row5 (y : S640x512.Idx) : (outsAt0 m c t).2.1 y = rowV (rowP m c t (y 1)) (y 0) := by
  refine (out5 m c t y).trans ?_
  unfold rowV
  by_cases h : (y 0).val % 80 < 64
  · refine (if_pos h).trans (Eq.trans ?_ (if_pos h).symm)
    refine (U_eq m c t _ (y 1)).trans ?_
    exact congrArg (rowP m c t (y 1)) (Fin.ext (by dsimp only; omega))
  · exact (if_neg h).trans (if_neg h).symm

theorem row6 (y : S512x384.Idx) : (outsAt0 m c t).2.2.1 y = rowI (rowP m c t (y 0)) (y 1) := by
  exact (out6 m c t y).trans (dot_eq m c t (y 0) ⟨1024 + (y 1).val, by have h : (y 1).val < 384 := (y 1).isLt; omega⟩)

theorem row7 (y : S512x1664.Idx) : (outsAt0 m c t).2.2.2 y = rowB (rowP m c t (y 0)) (y 1) := by
  exact (out7 m c t y).trans (dot_eq m c t (y 0) ⟨1408 + (y 1).val, by have h : (y 1).val < 1664 := (y 1).isLt; omega⟩)

theorem final4 : (dats m 0 c).arrAt 4 (cfgs 0).N
    = refA (REF (m ((c : Thread nD τ).loc main_arg0)) (m ((c : Thread nD τ).loc main_arg1)) (m ((c : Thread nD τ).loc main_arg2))) := by
  refine (dats m 0 c).arrAt_eq_of_covers 4 _ (by decide +kernel) fun t _ y => ?_
  blk_simp
  rw [after0_4]
  refine (row4 m c t y).trans ?_
  have e : (win0_4.blk t).view.emb y = ix2 (⟨t.val * 512 + (y 0).val, lt_rows t (y 0)⟩ : Fin 32768) (y 1 : Fin 1024) := by
    blk_ext [idx t]
  rw [e]
  refine Eq.trans ?_ (refA_row _ _ _).symm
  exact congrFun (congrArg rowA (REF_row _ _ _ _).symm) _

theorem final5 : (dats m 0 c).arrAt 5 (cfgs 0).N
    = refV (REF (m ((c : Thread nD τ).loc main_arg0)) (m ((c : Thread nD τ).loc main_arg1)) (m ((c : Thread nD τ).loc main_arg2))) := by
  refine (dats m 0 c).arrAt_eq_of_covers 5 _ (by decide +kernel) fun t _ y => ?_
  blk_simp
  rw [after0_5]
  refine (row5 m c t y).trans ?_
  have e : (win0_5.blk t).view.emb y = ix2 (y 0 : Fin 640) (⟨t.val * 512 + (y 1).val, lt_rows t (y 1)⟩ : Fin 32768) := by
    blk_ext [idx t]
  rw [e]
  refine Eq.trans ?_ (refV_row _ _ _).symm
  exact congrFun (congrArg rowV (REF_row _ _ _ _).symm) _

theorem final6 : (dats m 0 c).arrAt 6 (cfgs 0).N
    = refI (REF (m ((c : Thread nD τ).loc main_arg0)) (m ((c : Thread nD τ).loc main_arg1)) (m ((c : Thread nD τ).loc main_arg2))) := by
  refine (dats m 0 c).arrAt_eq_of_covers 6 _ (by decide +kernel) fun t _ y => ?_
  blk_simp
  rw [after0_6]
  refine (row6 m c t y).trans ?_
  have e : (win0_6.blk t).view.emb y = ix2 (⟨t.val * 512 + (y 0).val, lt_rows t (y 0)⟩ : Fin 32768) (y 1 : Fin 384) := by
    blk_ext [idx t]
  rw [e]
  refine Eq.trans ?_ (refI_row _ _ _).symm
  exact congrFun (congrArg rowI (REF_row _ _ _ _).symm) _

theorem final7 : (dats m 0 c).arrAt 7 (cfgs 0).N
    = refB (REF (m ((c : Thread nD τ).loc main_arg0)) (m ((c : Thread nD τ).loc main_arg1)) (m ((c : Thread nD τ).loc main_arg2))) := by
  refine (dats m 0 c).arrAt_eq_of_covers 7 _ (by decide +kernel) fun t _ y => ?_
  blk_simp
  rw [after0_7]
  refine (row7 m c t y).trans ?_
  have e : (win0_7.blk t).view.emb y = ix2 (⟨t.val * 512 + (y 0).val, lt_rows t (y 0)⟩ : Fin 32768) (y 1 : Fin 1664) := by
    blk_ext [idx t]
  rw [e]
  refine Eq.trans ?_ (refB_row _ _ _).symm
  exact congrFun (congrArg rowB (REF_row _ _ _ _).symm) _

end Kernel

end Cert.Proof.Proj
-- ==== Proof.lean ====
module

public import proofs.«01_k».proof.Defs
public import proofs.«01_k».proof.Proof.Gen.Kernel
public import proofs.«01_k».proof.Proof.Gen.KernelIdeal
public import proofs.«01_k».proof.Proof.Gen.KernelFfn.Frame
public import proofs.«01_k».proof.Proof.Gen.KernelFfnIdeal.Value
public import proofs.«01_k».proof.Proof.Gen.ReferenceFfnIdeal.Run
public import proofs.«01_k».proof.Proof.Gen.KernelProj.Frame
public import proofs.«01_k».proof.Proof.Gen.KernelProjIdeal.Value
public import proofs.«01_k».proof.Proof.Gen.ReferenceProjIdeal.Run
public import proofs.«01_k».proof.Proof.Run
public import proofs.«01_k».proof.Proof.Ffn
public import proofs.«01_k».proof.Proof.Proj

@[expose] public section
namespace Cert.Proof
open Idealize.ShloMosaic Idealize.SL.Sem

section
variable {F : FTy → Type} [FloatOps F]

/-- The two texts' tables of bodies are one table. -/
theorem defs₀_eq : Cert.Kernel.defs₀ (F := F) = Cert.KernelIdeal.defs₀ (F := F) := by
  delta Cert.Kernel.defs₀ Cert.KernelIdeal.defs₀
  refine congrArg Defs.onTc (funext fun a => funext fun b => ?_)
  match a, b with
  | 0, (t, s) => rfl
  | ⟨n + 1, h⟩, _ => exact absurd h (Nat.not_lt.2 (Nat.le_add_left _ _))

/-- So are their whole tables. -/
theorem defs_eq : Cert.Kernel.defs (F := F) = Cert.KernelIdeal.defs (F := F) := by
  delta Cert.Kernel.defs Cert.KernelIdeal.defs
  exact congrArg (Pipeline.defs (Cert.KernelIdeal.pcfgs (F := F))) defs₀_eq

end

theorem frame_kernel_ideal : Cert.quiescent_KernelIdeal := fun m ρ _ => Body.run_main m ρ

/-- The other frame is the same run, of the same text. -/
theorem frame_kernel : Cert.quiescent_Kernel := fun m ρ _ => by
  have h := Body.run_main (F := Bits) m ρ
  rw [← defs_eq] at h
  exact h

theorem frame_reference_ffn : Cert.quiescent_ReferenceFfnIdeal := fun m ρ _ =>
  θ_run_mono (Cert.ReferenceFfnIdeal.Value.run m ρ) fun r h => ⟨fun c => (h c).2, sem_eq_zero_of_no_sems (by decide) r.2⟩

/-- Both programs end with `Ffn.REF` of their arguments. -/
theorem algebraic_ffn : Cert.algebraic_KernelFfnIdeal_ReferenceFfnIdeal := by
  intro m g m' g' _ hagree
  refine ⟨fun c => (Cert.KernelFfnIdeal.Gen.dats m 0 c).arrAt 9 Cert.KernelFfnIdeal.cfg0.N,
    Cert.KernelFfnIdeal.Value.run_blocks m g,
    θ_run_mono (Cert.ReferenceFfnIdeal.Value.run m' g') fun r hr c => ⟨(hr c).1.trans ?_, (hr c).2⟩⟩
  obtain ⟨h0, h1, h2, h3, h4, h5, h6, h7, h8⟩ := hagree c
  refine (Ffn.res_eq m' c).trans ?_
  rw [h0, h1, h2, h3, h4, h5, h6, h7, h8]
  exact (Ffn.final m c).symm

theorem frame_reference_proj : Cert.quiescent_ReferenceProjIdeal := fun m ρ _ =>
  θ_run_mono (Cert.ReferenceProjIdeal.Value.run m ρ) fun r h =>
    ⟨fun c => (h c).2.2.2.2, sem_eq_zero_of_no_sems (by decide) r.2⟩

/-- Both programs end with the four layouts of `Proj.REF` of their arguments. -/
theorem algebraic_proj : Cert.algebraic_KernelProjIdeal_ReferenceProjIdeal := by
  intro m g m' g' _ hagree
  refine ⟨fun c => (Cert.KernelProjIdeal.Gen.dats m 0 c).arrAt 4 Cert.KernelProjIdeal.cfg0.N,
    fun c => (Cert.KernelProjIdeal.Gen.dats m 0 c).arrAt 5 Cert.KernelProjIdeal.cfg0.N,
    fun c => (Cert.KernelProjIdeal.Gen.dats m 0 c).arrAt 6 Cert.KernelProjIdeal.cfg0.N,
    fun c => (Cert.KernelProjIdeal.Gen.dats m 0 c).arrAt 7 Cert.KernelProjIdeal.cfg0.N,
    Cert.KernelProjIdeal.Value.run_blocks m g,
    θ_run_mono (Cert.ReferenceProjIdeal.Value.run m' g') fun r hr c =>
      ⟨(hr c).1.trans ?_, (hr c).2.1.trans ?_, (hr c).2.2.1.trans ?_, (hr c).2.2.2.1.trans ?_, (hr c).2.2.2.2⟩⟩
  all_goals obtain ⟨h0, h1, h2⟩ := hagree c
  · refine Eq.trans ?_ (Proj.final4 m c).symm
    rw [← h0, ← h1, ← h2]
    rfl
  · refine Eq.trans ?_ (Proj.final5 m c).symm
    rw [← h0, ← h1, ← h2]
    rfl
  · refine Eq.trans ?_ (Proj.final6 m c).symm
    rw [← h0, ← h1, ← h2]
    rfl
  · refine Eq.trans ?_ (Proj.final7 m c).symm
    rw [← h0, ← h1, ← h2]
    exact Proj.res_eq m' c

theorem claim : Cert.Claim :=
  ⟨Cert.Kernel.Gen.facts, Cert.KernelIdeal.Gen.facts, Cert.KernelFfn.Gen.facts, Cert.KernelFfnIdeal.Gen.facts,
    Cert.ReferenceFfnIdeal.Gen.facts, Cert.KernelProj.Gen.facts, Cert.KernelProjIdeal.Gen.facts,
    Cert.ReferenceProjIdeal.Gen.facts, frame_kernel, frame_kernel_ideal,
    fun m ρ _ => Cert.KernelFfn.Gen.frame m ρ, fun m ρ _ => Cert.KernelFfnIdeal.Gen.frame m ρ, frame_reference_ffn,
    fun m ρ _ => Cert.KernelProj.Gen.frame m ρ, fun m ρ _ => Cert.KernelProjIdeal.Gen.frame m ρ, frame_reference_proj,
    trivial, trivial, algebraic_ffn, trivial, algebraic_proj⟩
end Cert.Proof
